-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_params [hPre_finite_params : Cert.Pre_finite_params.Facts] (m : (ℓ : Loc Cert.KernelIdeal.nD Cert.KernelIdeal.τ Cert.KernelIdeal.sig) → Buf (Elt Ideal) ℓ) : Prop :=
  ∀ c : Dev Cert.KernelIdeal.nD,
    (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_params [hPre_finite_params : Cert.Pre_finite_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_params [hKernelIdeal : Cert.KernelIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_params [hReferenceIdeal : Cert.ReferenceIdeal.Facts] [hPre_finite_params : Cert.Pre_finite_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "clamp" .f32 0x42A00000#32 ⊤
  ∧ IdealRules.named_const.Statement Cert.KernelIdeal.κ "neg_clamp" .f32 0xC2A00000#32 ⊥
  ∧ IdealRules.named_const.Statement Cert.KernelIdeal.κ "log_cut" .f32 0xC180F1DC#32 ((Real.log (14073749 / 140737488355328) : ℝ) : EReal)

def algebraic_KernelIdeal_ReferenceIdeal_pre_finite_params [hKernelIdeal : Cert.KernelIdeal.Facts] [hReferenceIdeal : Cert.ReferenceIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_params : Cert.Pre_finite_params.Facts),
    quiescent_Kernel (hKernel := hKernel)
    ∧ quiescent_KernelIdeal (hKernelIdeal := hKernelIdeal)
    ∧ quiescent_KernelIdeal_pre_finite_params (hKernelIdeal := hKernelIdeal) (hPre_finite_params := hPre_finite_params)
    ∧ quiescent_ReferenceIdeal (hReferenceIdeal := hReferenceIdeal)
    ∧ quiescent_ReferenceIdeal_pre_finite_params (hReferenceIdeal := hReferenceIdeal) (hPre_finite_params := hPre_finite_params)
    ∧ preserves_Kernel_KernelIdeal
    ∧ algebraic_KernelIdeal_ReferenceIdeal_pre_finite_params (hKernelIdeal := hKernelIdeal) (hReferenceIdeal := hReferenceIdeal) (hPre_finite_params := hPre_finite_params)
-- ==== Pre_finite_params.lean ====
abbrev S16384x64x1 : Shape := ⟨3, ![16384, 64, 1]⟩
abbrev S16384x64x30 : Shape := ⟨3, ![16384, 64, 30]⟩
abbrev S64 : Shape := ⟨1, ![64]⟩
abbrev S16384x1892 : Shape := ⟨2, ![16384, 1892]⟩
abbrev S_ : Shape := ⟨0, ![]⟩

class Facts : Prop where
  bcast_S_S16384x64x30 : S_.BroadcastsInDim S16384x64x30 (![] : Fin 0 → Fin S16384x64x30.rank)

variable [Facts]

def fn {F : FTy → Type} [FloatOps F] (main_arg0 : FVec F S16384x64x1 .f32) (main_arg1 : FVec F S16384x64x30 .f32) (main_arg2 : IVec S64 32) (main_arg3 : FVec F S16384x1892 .f32) : IVec S16384x64x30 1 :=
  let main_v0 : FVec F S16384x64x30 .f32 := Host.absf main_arg1
  let main_cst : FVec F S_ .f32 := constant S_ .f32 0x7F800000#32
  let main_v1 : FVec F S16384x64x30 .f32 := broadcastInDim S16384x64x30 ![] bcast_S_S16384x64x30 main_cst
  let main_v2 : IVec S16384x64x30 1 := cmpf .olt main_v0 main_v1
  main_v2
-- ==== Kernel.lean ====
abbrev S16384x64x1 : Shape := ⟨3, ![16384, 64, 1]⟩
abbrev S16384x64x30 : Shape := ⟨3, ![16384, 64, 30]⟩
abbrev S64 : Shape := ⟨1, ![64]⟩
abbrev S16384x1892 : Shape := ⟨2, ![16384, 1892]⟩
abbrev S8192x128 : Shape := ⟨2, ![8192, 128]⟩
abbrev S_ : Shape := ⟨0, ![]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x1x128 : Shape := ⟨3, ![1, 1, 128]⟩
abbrev S512x64x30 : Shape := ⟨3, ![512, 64, 30]⟩
abbrev S256x128 : Shape := ⟨2, ![256, 128]⟩
abbrev S30x128x128 : Shape := ⟨3, ![30, 128, 128]⟩
abbrev S2x64x30 : Shape := ⟨3, ![2, 64, 30]⟩
abbrev S128x30 : Shape := ⟨2, ![128, 30]⟩
abbrev S30x128 : Shape := ⟨2, ![30, 128]⟩
abbrev S30x1x128 : Shape := ⟨3, ![30, 1, 128]⟩
abbrev S64x128 : Shape := ⟨2, ![64, 128]⟩
abbrev S1x64x128 : Shape := ⟨3, ![1, 64, 128]⟩

abbrev nBuf : Space → Nat
  | .hbm => 45
  | .vmem => 10
  | .smem => 0
  | _ => 0

abbrev bufTy : (tb : Table) → Fin (tcTables nBuf tb) → BufTy
  | .hbm, ⟨0, _⟩ => ⟨S16384x64x1, .f32⟩
  | .hbm, ⟨1, _⟩ => ⟨S16384x64x30, .f32⟩
  | .hbm, ⟨2, _⟩ => ⟨S64, .i32⟩
  | .hbm, ⟨3, _⟩ => ⟨S16384x1892, .f32⟩
  | .hbm, ⟨4, _⟩ => ⟨S8192x128, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S1x128, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S2x64, .f32⟩
  | .hbm, ⟨25, _⟩ => ⟨S128, .f32⟩
  | .hbm, ⟨26, _⟩ => ⟨S1x128, .f32⟩
  | .hbm, ⟨27, _⟩ => ⟨S_, .f32⟩
  | .hbm, ⟨28, _⟩ => ⟨S64, .f32⟩
  | .hbm, ⟨29, _⟩ => ⟨S64, .i1⟩
  | .hbm, ⟨30, _⟩ => ⟨S_, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S2x64, .f32⟩
  | .hbm, ⟨37, _⟩ => ⟨S128, .f32⟩
  | .hbm, ⟨38, _⟩ => ⟨S1x128, .f32⟩
  | .hbm, ⟨39, _⟩ => ⟨S1x1x128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S512x64x30, .f32⟩
  | .local _ .vmem, ⟨1, _⟩ => ⟨S512x64x30, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x1x128, .f32⟩
  | .local _ .vmem, ⟨8, _⟩ => ⟨S30x128x128, .f32⟩
  | .local _ .vmem, ⟨9, _⟩ => ⟨S30x128x128, .f32⟩
  | _, _ => ⟨S16384x64x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_cst_2 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_cst_3 : Ref sig .tc := ⟨.hbm, 27, rfl⟩
abbrev main_call0_v19 : Ref sig .tc := ⟨.hbm, 28, rfl⟩
abbrev main_call0_v20 : Ref sig .tc := ⟨.hbm, 29, rfl⟩
abbrev main_call0_cst_4 : Ref sig .tc := ⟨.hbm, 30, rfl⟩
abbrev main_call0_cst_5 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_cst_6 : Ref sig .tc := ⟨.hbm, 40, rfl⟩
abbrev main_call0_v27 : Ref sig .tc := ⟨.hbm, 41, rfl⟩
abbrev main_v0_0 : Ref sig .tc := ⟨.hbm, 42, rfl⟩
abbrev main_call0_cst_7 : Ref sig .tc := ⟨.hbm, 43, rfl⟩
abbrev main_v0_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x64x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "clamp" => some ⊤
  | "log_cut" => some ((Real.log (14073749 / 140737488355328) : ℝ) : EReal)
  | "neg_clamp" => some ⊥
  | _ => none
-- ==== ReferenceIdeal.lean ====
abbrev S16384x64x1 : Shape := ⟨3, ![16384, 64, 1]⟩
abbrev S16384x64x30 : Shape := ⟨3, ![16384, 64, 30]⟩
abbrev S64 : Shape := ⟨1, ![64]⟩
abbrev S16384x1892 : Shape := ⟨2, ![16384, 1892]⟩
abbrev S16384x64x10 : Shape := ⟨3, ![16384, 64, 10]⟩
abbrev S16384x64x20 : Shape := ⟨3, ![16384, 64, 20]⟩
abbrev S16384x64x1x20 : Shape := ⟨4, ![16384, 64, 1, 20]⟩
abbrev S16384x64x1x10 : Shape := ⟨4, ![16384, 64, 1, 10]⟩
abbrev S_ : Shape := ⟨0, ![]⟩
abbrev S16384x64x1x1 : Shape := ⟨4, ![16384, 64, 1, 1]⟩
abbrev S1x64x1x1 : Shape := ⟨4, ![1, 64, 1, 1]⟩
abbrev S16384x64 : Shape := ⟨2, ![16384, 64]⟩

abbrev nBuf : Space → Nat
  | .hbm => 173
  | .vmem => 0
  | .smem => 0
  | _ => 0

abbrev hbmTy0_0 (i : Nat) : BufTy := match i % 128 with
  | 0 => ⟨S16384x64x1, .f32⟩
  | 1 => ⟨S16384x64x30, .f32⟩
  | 2 => ⟨S64, .i32⟩
  | 3 => ⟨S16384x1892, .f32⟩
  | 4 => ⟨S16384x64x10, .f32⟩
  | 5 => ⟨S16384x64x20, .f32⟩
  | 6 => ⟨S16384x64x1x20, .f32⟩
  | 7 => ⟨S16384x64x1x10, .f32⟩
  | 8 => ⟨S16384x64x1x10, .f32⟩
  | 9 => ⟨S_, .f32⟩
  | 10 => ⟨S16384x64x1x10, .f32⟩
  | 11 => ⟨S16384x64x1x10, .f32⟩
  | 12 => ⟨S16384x64x1x1, .f32⟩
  | 13 => ⟨S16384x64x1x10, .f32⟩
  | 14 => ⟨S16384x64x1x10, .f32⟩
  | 15 => ⟨S16384x64x1x10, .f32⟩
  | 16 => ⟨S16384x64x1x10, .f32⟩
  | 17 => ⟨S64, .f32⟩
  | 18 => ⟨S1x64x1x1, .f32⟩
  | 19 => ⟨S_, .f32⟩
  | 20 => ⟨S1x64x1x1, .f32⟩
  | 21 => ⟨S1x64x1x1, .f32⟩
  | 22 => ⟨S_, .f32⟩
  | 23 => ⟨S1x64x1x1, .f32⟩
  | 24 => ⟨S1x64x1x1, .f32⟩
  | 25 => ⟨S_, .f32⟩
  | 26 => ⟨S1x64x1x1, .f32⟩
  | 27 => ⟨S1x64x1x1, .f32⟩
  | 28 => ⟨S16384x64x1x10, .f32⟩
  | 29 => ⟨S16384x64x1x10, .f32⟩
  | 30 => ⟨S16384x64x1x10, .f32⟩
  | 31 => ⟨S16384x64x1x10, .f32⟩
  | 32 => ⟨S16384x64x1x10, .f32⟩
  | 33 => ⟨S16384x64x1x10, .f32⟩
  | 34 => ⟨S16384x64x1x10, .f32⟩
  | 35 => ⟨S16384x64x1x10, .f32⟩
  | 36 => ⟨S_, .f32⟩
  | 37 => ⟨S16384x64x1x10, .f32⟩
  | 38 => ⟨S16384x64x1x10, .f32⟩
  | 39 => ⟨S_, .f32⟩
  | 40 => ⟨S16384x64x1x10, .f32⟩
  | 41 => ⟨S16384x64x1x10, .f32⟩
  | 42 => ⟨S16384x64x1x10, .f32⟩
  | 43 => ⟨S16384x64x1x10, .f32⟩
  | 44 => ⟨S_, .f32⟩
  | 45 => ⟨S16384x64x1x10, .f32⟩
  | 46 => ⟨S16384x64x1x10, .f32⟩
  | 47 => ⟨S_, .f32⟩
  | 48 => ⟨S16384x64x1x10, .f32⟩
  | 49 => ⟨S16384x64x1x10, .f32⟩
  | 50 => ⟨S16384x64x1x10, .f32⟩
  | 51 => ⟨S_, .f32⟩
  | 52 => ⟨S16384x64x1x10, .f32⟩
  | 53 => ⟨S16384x64x1x10, .f32⟩
  | 54 => ⟨S16384x64x1x10, .f32⟩
  | 55 => ⟨S16384x64x1x10, .f32⟩
  | 56 => ⟨S16384x64x1x10, .i1⟩
  | 57 => ⟨S16384x64x1x10, .f32⟩
  | 58 => ⟨S16384x64x1x10, .f32⟩
  | 59 => ⟨S16384x64x1x10, .f32⟩
  | 60 => ⟨S16384x64x1x10, .f32⟩
  | 61 => ⟨S16384x64x1x10, .f32⟩
  | 62 => ⟨S16384x64x1x10, .f32⟩
  | 63 => ⟨S16384x64x1x10, .f32⟩
  | 64 => ⟨S16384x64x1x10, .f32⟩
  | 65 => ⟨S16384x64x1x10, .f32⟩
  | 66 => ⟨S_, .f32⟩
  | 67 => ⟨S16384x64x1x10, .f32⟩
  | 68 => ⟨S16384x64x1x10, .f32⟩
  | 69 => ⟨S16384x64x1x10, .f32⟩
  | 70 => ⟨S16384x64x1x10, .f32⟩
  | 71 => ⟨S16384x64x1x10, .i1⟩
  | 72 => ⟨S16384x64x1x10, .f32⟩
  | 73 => ⟨S16384x64x1x10, .f32⟩
  | 74 => ⟨S16384x64x1x10, .f32⟩
  | 75 => ⟨S16384x64x1x10, .f32⟩
  | 76 => ⟨S16384x64x1x10, .f32⟩
  | 77 => ⟨S16384x64x1x10, .f32⟩
  | 78 => ⟨S16384x64x1x10, .f32⟩
  | 79 => ⟨S16384x64x1x10, .f32⟩
  | 80 => ⟨S16384x64x1x10, .f32⟩
  | 81 => ⟨S16384x64x1x10, .f32⟩
  | 82 => ⟨S16384x64x1x10, .f32⟩
  | 83 => ⟨S_, .f32⟩
  | 84 => ⟨S16384x64x1x10, .f32⟩
  | 85 => ⟨S16384x64x1x10, .f32⟩
  | 86 => ⟨S16384x64x1x10, .f32⟩
  | 87 => ⟨S16384x64x1x10, .f32⟩
  | 88 => ⟨S16384x64x1x10, .i1⟩
  | 89 => ⟨S16384x64x1x10, .f32⟩
  | 90 => ⟨S16384x64x1x10, .f32⟩
  | 91 => ⟨S16384x64x1x10, .f32⟩
  | 92 => ⟨S16384x64x1x10, .f32⟩
  | 93 => ⟨S16384x64x1x10, .f32⟩
  | 94 => ⟨S16384x64x1x10, .f32⟩
  | 95 => ⟨S16384x64x1x10, .f32⟩
  | 96 => ⟨S16384x64x1x10, .f32⟩
  | 97 => ⟨S_, .f32⟩
  | 98 => ⟨S16384x64x1x10, .f32⟩
  | 99 => ⟨S16384x64x1x10, .f32⟩
  | 100 => ⟨S16384x64x1x10, .f32⟩
  | 101 => ⟨S_, .f32⟩
  | 102 => ⟨S16384x64x1x1, .f32⟩
  | 103 => ⟨S16384x64x1x1, .i1⟩
  | 104 => ⟨S_, .f32⟩
  | 105 => ⟨S16384x64x1x1, .f32⟩
  | 106 => ⟨S16384x64x1x1, .i1⟩
  | 107 => ⟨S_, .f32⟩
  | 108 => ⟨S16384x64x1x10, .f32⟩
  | 109 => ⟨S16384x64x1x10, .i1⟩
  | 110 => ⟨S_, .f32⟩
  | 111 => ⟨S16384x64x1x10, .f32⟩
  | 112 => ⟨S16384x64x1x10, .f32⟩
  | 113 => ⟨S16384x64x1x10, .f32⟩
  | 114 => ⟨S_, .f32⟩
  | 115 => ⟨S1x64x1x1, .f32⟩
  | 116 => ⟨S1x64x1x1, .f32⟩
  | 117 => ⟨S1x64x1x1, .f32⟩
  | 118 => ⟨S16384x64x1x10, .f32⟩
  | 119 => ⟨S16384x64x1x10, .f32⟩
  | 120 => ⟨S16384x64x1x10, .f32⟩
  | 121 => ⟨S16384x64x1x10, .i1⟩
  | 122 => ⟨S16384x64x1x10, .f32⟩
  | 123 => ⟨S16384x64x1x10, .i1⟩
  | 124 => ⟨S16384x64x1x10, .f32⟩
  | 125 => ⟨S_, .f32⟩
  | 126 => ⟨S1x64x1x1, .f32⟩
  | 127 => ⟨S1x64x1x1, .i1⟩
  | _ => ⟨S16384x64x1, .f32⟩

abbrev hbmTy0_1 (i : Nat) : BufTy := match i % 128 with
  | 0 => ⟨S_, .f32⟩
  | 1 => ⟨S_, .f32⟩
  | 2 => ⟨S16384x64x1x10, .i1⟩
  | 3 => ⟨S16384x64x1x10, .f32⟩
  | 4 => ⟨S16384x64x1x10, .f32⟩
  | 5 => ⟨S16384x64x10, .f32⟩
  | 6 => ⟨S_, .f32⟩
  | 7 => ⟨S16384x64, .f32⟩
  | 8 => ⟨S_, .f32⟩
  | 9 => ⟨S16384x64, .f32⟩
  | 10 => ⟨S16384x64, .f32⟩
  | 11 => ⟨S16384x64x1, .f32⟩
  | 12 => ⟨S16384x64x10, .f32⟩
  | 13 => ⟨S16384x64x10, .f32⟩
  | 14 => ⟨S16384x64x10, .f32⟩
  | 15 => ⟨S_, .f32⟩
  | 16 => ⟨S16384x64, .f32⟩
  | 17 => ⟨S16384x64x1, .f32⟩
  | 18 => ⟨S16384x64x1, .f32⟩
  | 19 => ⟨S16384x64x10, .f32⟩
  | 20 => ⟨S16384x64x10, .f32⟩
  | 21 => ⟨S16384x64x10, .f32⟩
  | 22 => ⟨S_, .f32⟩
  | 23 => ⟨S16384x64, .f32⟩
  | 24 => ⟨S16384x64, .f32⟩
  | 25 => ⟨S_, .f32⟩
  | 26 => ⟨S16384x64, .f32⟩
  | 27 => ⟨S16384x64, .i1⟩
  | 28 => ⟨S_, .f32⟩
  | 29 => ⟨S_, .f32⟩
  | 30 => ⟨S16384x64, .f32⟩
  | 31 => ⟨S16384x64, .f32⟩
  | 32 => ⟨S16384x64x1, .f32⟩
  | 33 => ⟨S16384x64x10, .f32⟩
  | 34 => ⟨S16384x64x10, .f32⟩
  | 35 => ⟨S16384x64x10, .f32⟩
  | 36 => ⟨S_, .f32⟩
  | 37 => ⟨S16384x64, .f32⟩
  | 38 => ⟨S16384x64, .f32⟩
  | 39 => ⟨S16384x64, .f32⟩
  | 40 => ⟨S_, .f32⟩
  | 41 => ⟨S_, .f32⟩
  | 42 => ⟨S_, .f32⟩
  | 43 => ⟨S_, .f32⟩
  | 44 => ⟨S_, .f32⟩
  | _ => ⟨S16384x64x1, .f32⟩

abbrev hbmTy (i : Nat) : BufTy := match i / 128 with
  | 0 => hbmTy0_0 i
  | 1 => hbmTy0_1 i
  | _ => ⟨S16384x64x1, .f32⟩

abbrev bufTy : (tb : Table) → Fin (tcTables nBuf tb) → BufTy
  | .hbm, ⟨i, _⟩ => hbmTy i
  | _, _ => ⟨S16384x64x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_v39 : Ref sig .tc := ⟨.hbm, 64, rfl⟩
abbrev main_v40 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_v45 : Ref sig .tc := ⟨.hbm, 96, rfl⟩
abbrev main_cst_7 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_8 : Ref sig .tc := ⟨.hbm, 101, rfl⟩
abbrev main_v49 : Ref sig .tc := ⟨.hbm, 102, rfl⟩
abbrev main_v50 : Ref sig .tc := ⟨.hbm, 103, rfl⟩
abbrev main_cst_9 : Ref sig .tc := ⟨.hbm, 104, rfl⟩
abbrev main_v51 : Ref sig .tc := ⟨.hbm, 105, rfl⟩
abbrev main_v52 : Ref sig .tc := ⟨.hbm, 106, rfl⟩
abbrev main_cst_10 : Ref sig .tc := ⟨.hbm, 107, rfl⟩
abbrev main_v53 : Ref sig .tc := ⟨.hbm, 108, rfl⟩
abbrev main_v54 : Ref sig .tc := ⟨.hbm, 109, rfl⟩
abbrev main_cst_11 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_12 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_call4_v0 : Ref sig .tc := ⟨.hbm, 121, rfl⟩
abbrev main_v64 : Ref sig .tc := ⟨.hbm, 122, rfl⟩
abbrev main_call5_v0 : Ref sig .tc := ⟨.hbm, 123, rfl⟩
abbrev main_v65 : Ref sig .tc := ⟨.hbm, 124, rfl⟩
abbrev main_cst_13 : Ref sig .tc := ⟨.hbm, 125, rfl⟩
abbrev main_v66 : Ref sig .tc := ⟨.hbm, 126, rfl⟩
abbrev main_v67 : Ref sig .tc := ⟨.hbm, 127, rfl⟩
abbrev main_cst_14 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v68 : Ref sig .tc := ⟨.hbm, 132, rfl⟩
abbrev main_v69 : Ref sig .tc := ⟨.hbm, 133, rfl⟩
abbrev main_call7_cst : Ref sig .tc := ⟨.hbm, 134, rfl⟩
abbrev main_call7_v0 : Ref sig .tc := ⟨.hbm, 135, rfl⟩
abbrev main_call7_cst_0 : Ref sig .tc := ⟨.hbm, 136, rfl⟩
abbrev main_call7_v1 : Ref sig .tc := ⟨.hbm, 137, rfl⟩
abbrev main_call7_v2 : Ref sig .tc := ⟨.hbm, 138, rfl⟩
abbrev main_call7_v3 : Ref sig .tc := ⟨.hbm, 139, rfl⟩
abbrev main_call7_v4 : Ref sig .tc := ⟨.hbm, 140, rfl⟩
abbrev main_call7_v5 : Ref sig .tc := ⟨.hbm, 141, rfl⟩
abbrev main_call7_v6 : Ref sig .tc := ⟨.hbm, 142, rfl⟩
abbrev main_call7_cst_1 : Ref sig .tc := ⟨.hbm, 143, rfl⟩
abbrev main_call7_v7 : Ref sig .tc := ⟨.hbm, 144, rfl⟩
abbrev main_call7_v8 : Ref sig .tc := ⟨.hbm, 145, rfl⟩
abbrev main_call7_v9 : Ref sig .tc := ⟨.hbm, 146, rfl⟩
abbrev main_call7_v10 : Ref sig .tc := ⟨.hbm, 147, rfl⟩
abbrev main_v70 : Ref sig .tc := ⟨.hbm, 148, rfl⟩
abbrev main_v71 : Ref sig .tc := ⟨.hbm, 149, rfl⟩
abbrev main_cst_15 : Ref sig .tc := ⟨.hbm, 150, rfl⟩
abbrev main_v72 : Ref sig .tc := ⟨.hbm, 151, rfl⟩
abbrev main_v73 : Ref sig .tc := ⟨.hbm, 152, rfl⟩
abbrev main_cst_16 : Ref sig .tc := ⟨.hbm, 153, rfl⟩
abbrev main_v74 : Ref sig .tc := ⟨.hbm, 154, rfl⟩
abbrev main_v75 : Ref sig .tc := ⟨.hbm, 155, rfl⟩
abbrev main_cst_17 : Ref sig .tc := ⟨.hbm, 156, rfl⟩
abbrev main_call8_v0 : Ref sig .tc := ⟨.hbm, 157, rfl⟩
abbrev main_call8_v1 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_cst_18 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_cst_19 : Ref sig .tc := ⟨.hbm, 168, rfl⟩
abbrev main_v84 : Ref sig .tc := ⟨.hbm, 169, rfl⟩
abbrev main_v85 : Ref sig .tc := ⟨.hbm, 170, rfl⟩
abbrev main_cst_20 : Ref sig .tc := ⟨.hbm, 171, rfl⟩
abbrev main_v86 : Ref sig .tc := ⟨.hbm, 172, rfl⟩

abbrev nD : Nat := 1
abbrev τ : Topo := Topo.v7x

variable {F : FTy → Type} [FloatOps F]
-- ==== Proof.Body.lean ====
module

public import proofs.«01_k».proof.Proof.Gen.KernelIdeal.Frame

/-! What the kernel's block computes, as expressions on whole vectors: the log-probability of one
component of the mixture, the running log-sum-exp over ten components, and the mixture's value on a
slab of 64 rows. -/

@[expose] public section

noncomputable section

open Idealize.ShloMosaic Cert.KernelIdeal Cert.KernelIdeal.Gen

namespace Cert.Proof

variable {F : FTy → Type} [FloatOps F] [Named F]

/-- The constant vector of a slab. -/
def splat (w : BitVec 32) : FVec F S64x128 .f32 := broadcast S64x128 (Scalar.ofBits .f32 w)

/-- The constant vector of a named constant. -/
def splatNamed (n : String) (w : BitVec 32) : FVec F S64x128 .f32 :=
  broadcast S64x128 (Named.named κ n w)

/-- The negation the kernel writes: zero minus the operand. -/
def negv (v : FVec F S64x128 .f32) : FVec F S64x128 .f32 := subf (splat 0x00000000#32) v

/-- `exp (min (−v) clamp)`. -/
def expNeg (v : FVec F S64x128 .f32) : FVec F S64x128 .f32 :=
  exp (minimumf (negv v) (splatNamed "clamp" 0x42A00000#32))

/-- `log (1 + e)`. -/
def logOnePlus (e : FVec F S64x128 .f32) : FVec F S64x128 .f32 := log (addf (splat 0x3F800000#32) e)

/-- The comparison `v < −clamp`. -/
def farLeft (v : FVec F S64x128 .f32) : IVec S64x128 1 :=
  cmpf .olt v (splatNamed "neg_clamp" 0xC2A00000#32)

/-- The log-probability of the component with centre `mu` and log scale `ls` on a slab: `hv` is half
a bin, `gv` the logarithm of half the number of bins less one, `ok` whether a column has more than one
bin, `lo` and `hi` whether `xs` is at an edge. -/
def compVec (hv gv : FVec F S1x128 .f32) (ok : IVec S1x128 1) (xs : FVec F S64x128 .f32)
    (lo hi : IVec S64x128 1) (mu ls : Vec F S1x64x128 .f32) : FVec F S64x128 .f32 :=
  have lsc : FVec F S64x128 .f32 :=
    maximumf (shapeCast S64x128 ls shapeCasts_S1x64x128_S64x128) (splat 0xC0E00000#32)
  have inv : FVec F S64x128 .f32 := exp (negv lsc)
  have a : FVec F S64x128 .f32 :=
    mulf inv (subf xs (shapeCast S64x128 mu shapeCasts_S1x64x128_S64x128))
  have h : FVec F S64x128 .f32 := mulf inv (broadcastTo S64x128 hv broadcasts_S1x128_S64x128)
  have p : FVec F S64x128 .f32 := addf a h
  have q : FVec F S64x128 .f32 := subf a h
  have lup : FVec F S64x128 .f32 := logOnePlus (expNeg p)
  have lum : FVec F S64x128 .f32 := logOnePlus (expNeg q)
  have ldelta : FVec F S64x128 .f32 := subf (subf (log (subf (expNeg q) (expNeg p))) lup) lum
  have pdf : FVec F S64x128 .f32 :=
    subf (select (farLeft a) a
      (subf (negv a) (mulf (splat 0x40000000#32) (logOnePlus (expNeg a))))) lsc
  have left : FVec F S64x128 .f32 := select (farLeft p) p (negv lup)
  have right : FVec F S64x128 .f32 := select (farLeft q) (splat 0x00000000#32) (subf (negv q) lum)
  have inner : FVec F S64x128 .f32 :=
    select (cmpf .ogt ldelta (splatNamed "log_cut" 0xC180F1DC#32)) ldelta
      (subf pdf (broadcastTo S64x128 gv broadcasts_S1x128_S64x128))
  select (broadcastTo S64x128 (shapeCast S1x128 ok shapeCasts_S1x128_S1x128) broadcasts_S1x128_S64x128)
    (select lo left (select hi right inner)) (splat 0x00000000#32)

/-- One step of the running log-sum-exp: the sum of exponentials `acc`, kept relative to the maximum
`rm`, takes in `s`. -/
def stepVec (rm acc s : FVec F S64x128 .f32) : FVec F S64x128 .f32 :=
  addf (mulf acc (exp (subf rm (maximumf rm s)))) (exp (subf s (maximumf rm s)))

/-- The running log-sum-exp of ten vectors. -/
def lseVec (s0 s1 s2 s3 s4 s5 s6 s7 s8 s9 : FVec F S64x128 .f32) : FVec F S64x128 .f32 :=
  have a0 : FVec F S64x128 .f32 := splat 0x3F800000#32
  have r1 : FVec F S64x128 .f32 := maximumf s0 s1
  have a1 : FVec F S64x128 .f32 := stepVec s0 a0 s1
  have r2 : FVec F S64x128 .f32 := maximumf r1 s2
  have a2 : FVec F S64x128 .f32 := stepVec r1 a1 s2
  have r3 : FVec F S64x128 .f32 := maximumf r2 s3
  have a3 : FVec F S64x128 .f32 := stepVec r2 a2 s3
  have r4 : FVec F S64x128 .f32 := maximumf r3 s4
  have a4 : FVec F S64x128 .f32 := stepVec r3 a3 s4
  have r5 : FVec F S64x128 .f32 := maximumf r4 s5
  have a5 : FVec F S64x128 .f32 := stepVec r4 a4 s5
  have r6 : FVec F S64x128 .f32 := maximumf r5 s6
  have a6 : FVec F S64x128 .f32 := stepVec r5 a5 s6
  have r7 : FVec F S64x128 .f32 := maximumf r6 s7
  have a7 : FVec F S64x128 .f32 := stepVec r6 a6 s7
  have r8 : FVec F S64x128 .f32 := maximumf r7 s8
  have a8 : FVec F S64x128 .f32 := stepVec r7 a7 s8
  have r9 : FVec F S64x128 .f32 := maximumf r8 s9
  have a9 : FVec F S64x128 .f32 := stepVec r8 a8 s9
  addf r9 (log a9)

/-- The mixture's log-probability on a slab: `blk k` holds the logits for `k < 10`, the centres for
`10 ≤ k < 20` and the log scales for `20 ≤ k < 30`. -/
def mixVec (hv gv : FVec F S1x128 .f32) (ok : IVec S1x128 1) (xs : FVec F S64x128 .f32)
    (blk : (k : ℕ) → k < 30 → Vec F S1x64x128 .f32) : FVec F S64x128 .f32 :=
  have lo : IVec S64x128 1 := cmpf .olt xs (splat 0xBF7FF972#32)
  have hi : IVec S64x128 1 := cmpf .ogt xs (splat 0x3F7FF972#32)
  have l0 : FVec F S64x128 .f32 := shapeCast S64x128 (blk 0 (by decide)) shapeCasts_S1x64x128_S64x128
  have s0 : FVec F S64x128 .f32 := addf (compVec hv gv ok xs lo hi (blk 10 (by decide)) (blk 20 (by decide))) l0
  have l1 : FVec F S64x128 .f32 := shapeCast S64x128 (blk 1 (by decide)) shapeCasts_S1x64x128_S64x128
  have s1 : FVec F S64x128 .f32 := addf (compVec hv gv ok xs lo hi (blk 11 (by decide)) (blk 21 (by decide))) l1
  have l2 : FVec F S64x128 .f32 := shapeCast S64x128 (blk 2 (by decide)) shapeCasts_S1x64x128_S64x128
  have s2 : FVec F S64x128 .f32 := addf (compVec hv gv ok xs lo hi (blk 12 (by decide)) (blk 22 (by decide))) l2
  have l3 : FVec F S64x128 .f32 := shapeCast S64x128 (blk 3 (by decide)) shapeCasts_S1x64x128_S64x128
  have s3 : FVec F S64x128 .f32 := addf (compVec hv gv ok xs lo hi (blk 13 (by decide)) (blk 23 (by decide))) l3
  have l4 : FVec F S64x128 .f32 := shapeCast S64x128 (blk 4 (by decide)) shapeCasts_S1x64x128_S64x128
  have s4 : FVec F S64x128 .f32 := addf (compVec hv gv ok xs lo hi (blk 14 (by decide)) (blk 24 (by decide))) l4
  have l5 : FVec F S64x128 .f32 := shapeCast S64x128 (blk 5 (by decide)) shapeCasts_S1x64x128_S64x128
  have s5 : FVec F S64x128 .f32 := addf (compVec hv gv ok xs lo hi (blk 15 (by decide)) (blk 25 (by decide))) l5
  have l6 : FVec F S64x128 .f32 := shapeCast S64x128 (blk 6 (by decide)) shapeCasts_S1x64x128_S64x128
  have s6 : FVec F S64x128 .f32 := addf (compVec hv gv ok xs lo hi (blk 16 (by decide)) (blk 26 (by decide))) l6
  have l7 : FVec F S64x128 .f32 := shapeCast S64x128 (blk 7 (by decide)) shapeCasts_S1x64x128_S64x128
  have s7 : FVec F S64x128 .f32 := addf (compVec hv gv ok xs lo hi (blk 17 (by decide)) (blk 27 (by decide))) l7
  have l8 : FVec F S64x128 .f32 := shapeCast S64x128 (blk 8 (by decide)) shapeCasts_S1x64x128_S64x128
  have s8 : FVec F S64x128 .f32 := addf (compVec hv gv ok xs lo hi (blk 18 (by decide)) (blk 28 (by decide))) l8
  have l9 : FVec F S64x128 .f32 := shapeCast S64x128 (blk 9 (by decide)) shapeCasts_S1x64x128_S64x128
  have s9 : FVec F S64x128 .f32 := addf (compVec hv gv ok xs lo hi (blk 19 (by decide)) (blk 29 (by decide))) l9
  subf (lseVec s0 s1 s2 s3 s4 s5 s6 s7 s8 s9)
    (lseVec l0 l1 l2 l3 l4 l5 l6 l7 l8 l9)

/-- The sum of a slab's values over its rows, as one row. -/
def rowSum (v : FVec F S64x128 .f32) : FVec F S1x128 .f32 :=
  shapeCast S1x128 (multiReduction .add [0] S128 v 0x00000000#32 reduces_S64x128_S128 (.inl rfl) rfl)
    shapeCasts_S128_S1x128

/-- The constant row zero. -/
def zeroRow : FVec F S1x128 .f32 := broadcast S1x128 (Scalar.ofBits .f32 0x00000000#32)

/-- Half a block: two slabs, their row sums added to zero one after the other. -/
def halfVec (hv gv : FVec F S1x128 .f32) (ok : IVec S1x128 1) (xs0 xs1 : Vec F S64x128 .f32)
    (blk0 blk1 : (k : ℕ) → k < 30 → Vec F S1x64x128 .f32) : FVec F S1x128 .f32 :=
  addf (addf zeroRow (rowSum (mixVec hv gv ok (shapeCast S64x128 xs0 shapeCasts_S64x128_S64x128) blk0)))
    (rowSum (mixVec hv gv ok (shapeCast S64x128 xs1 shapeCasts_S64x128_S64x128) blk1))

/-- What a block adds to the output row: the sum of its two halves. -/
def blockVec (hv gv nb : Vec F S1x128 .f32) (xs0 xs1 xs2 xs3 : Vec F S64x128 .f32)
    (blk0 blk1 blk2 blk3 : (k : ℕ) → k < 30 → Vec F S1x64x128 .f32) : FVec F S1x1x128 .f32 :=
  have h : FVec F S1x128 .f32 := shapeCast S1x128 hv shapeCasts_S1x128_S1x128
  have g : FVec F S1x128 .f32 := shapeCast S1x128 gv shapeCasts_S1x128_S1x128
  have ok : IVec S1x128 1 := cmpf .ogt (shapeCast S1x128 nb shapeCasts_S1x128_S1x128)
    (broadcast S1x128 (Scalar.ofBits .f32 0x3F000000#32))
  shapeCast S1x1x128 (addf (halfVec h g ok xs0 xs1 blk0 blk1) (halfVec h g ok xs2 xs3 blk2 blk3))
    shapeCasts_S1x128_S1x1x128

end Cert.Proof
-- ==== Proof.Block.lean ====
module

public import proofs.«01_k».proof.Proof.Body
public import Idealize.ShloMosaic.Lib.Pipeline.Value

/-! What one grid point leaves in the output row: the row it found (or zero, at the first point) plus
the block's sum (`blockVec`), over the scratch buffers the point fills row by row (`rowPieces`). -/

@[expose] public section

set_option maxRecDepth 65536

noncomputable section

open Idealize.ShloMosaic Idealize.ShloMosaic.Tactic Cert.KernelIdeal Cert.KernelIdeal.Gen

namespace Cert.Proof

variable {F : FTy → Type} [FloatOps F] [Named F]

/-- Two batch rows lie inside the block of `l`. -/
theorem inb_pair (b : ℕ) (hb : b ≤ 510) :
    ∀ a, ![b, 0, 0] a + S2x64x30.size a ≤ S512x64x30.size a
  | ⟨0, _⟩ => Nat.add_le_add_right hb 2
  | ⟨1, _⟩ => le_refl _
  | ⟨2, _⟩ => le_refl _

/-- A row lies inside a scratch buffer. -/
theorem inb_row (t : ℕ) (ht : t < 128) :
    ∀ a, ![0, t, 0] a + S30x1x128.size a ≤ S30x128x128.size a
  | ⟨0, _⟩ => le_refl _
  | ⟨1, _⟩ => ht
  | ⟨2, _⟩ => le_refl _

/-- 64 rows of one parameter lie inside a scratch buffer. -/
theorem inb_slab (k : ℕ) (hk : k < 30) (o : ℕ) (ho : o ≤ 64) :
    ∀ a, ![k, o, 0] a + S1x64x128.size a ≤ S30x128x128.size a
  | ⟨0, _⟩ => hk
  | ⟨1, _⟩ => Nat.add_le_add_right ho 64
  | ⟨2, _⟩ => le_refl _

/-- 64 rows lie inside the block of `x`. -/
theorem inb_xs (o : ℕ) (ho : o ≤ 192) : ∀ a, ![o, 0] a + S64x128.size a ≤ S256x128.size a
  | ⟨0, _⟩ => Nat.add_le_add_right ho 64
  | ⟨1, _⟩ => le_refl _

/-- The two zero offsets. -/
theorem zeros2 : (![0, 0] : Fin 2 → ℕ) = fun _ => 0 := by
  funext a; match a with
  | ⟨0, _⟩ => rfl
  | ⟨1, _⟩ => rfl

/-- The three zero offsets. -/
theorem zeros3 : (![0, 0, 0] : Fin 3 → ℕ) = fun _ => 0 := by
  funext a; match a with
  | ⟨0, _⟩ => rfl
  | ⟨1, _⟩ => rfl
  | ⟨2, _⟩ => rfl

/-- Row `t` of a scratch buffer: the parameters of two batch rows, regrouped as 128 lanes and turned. -/
def rowVec (v : Vec F S2x64x30 .f32) : FVec F S30x1x128 .f32 :=
  shapeCast S30x1x128 (transpose S30x128 [1, 0] (shapeCast S128x30 v shapeCasts_S2x64x30_S128x30)
    transposes_S128x30_p1_0_S30x128) shapeCasts_S30x128_S30x1x128

/-- The store of row `t`, from the block's batch rows `base + 2t` and `base + 2t + 1`. -/
def rowPiece (X : Vec F S512x64x30 .f32) (base : ℕ) (hb : base ≤ 256) (t : ℕ) (ht : t < 128) :
    View.Piece (Elt F) S30x128x128 .f32 :=
  ⟨Rect.unit (s := S30x128x128) ![0, t, 0] S30x1x128.size (inb_row t ht),
    rowVec (View.ld X (Rect.unit (s := S512x64x30) ![base + 2 * t, 0, 0] S2x64x30.size
      (inb_pair (base + 2 * t) (by omega))))⟩

/-- The stores of the first `n` rows, the last first. -/
def rowPieces (X : Vec F S512x64x30 .f32) (base : ℕ) (hb : base ≤ 256) :
    (n : ℕ) → n ≤ 128 → List (View.Piece (Elt F) S30x128x128 .f32)
  | 0, _ => []
  | n + 1, h => rowPiece X base hb n h :: rowPieces X base hb n (Nat.le_of_succ_le h)

/-- A scratch buffer after its 128 stores. -/
def scratch (X : Vec F S512x64x30 .f32) (base : ℕ) (hb : base ≤ 256) : Vec F S30x128x128 .f32 :=
  View.canon (rowPieces X base hb 128 (le_refl _))

/-- Parameter `k` of the 64 rows from row `o` on. -/
def slabOf (T : Vec F S30x128x128 .f32) (o : ℕ) (ho : o ≤ 64) (k : ℕ) (hk : k < 30) :
    Vec F S1x64x128 .f32 :=
  View.ld T (Rect.unit (s := S30x128x128) ![k, o, 0] S1x64x128.size (inb_slab k hk o ho))

/-- The 64 rows of `x` from row `o` on. -/
def xsOf (X : Vec F S256x128 .f32) (o : ℕ) (ho : o ≤ 192) : Vec F S64x128 .f32 :=
  View.ld X (Rect.unit (s := S256x128) ![o, 0] S64x128.size (inb_xs o ho))

/-- The block's contribution from its five input blocks. -/
def pointVec (x0 : Vec F S512x64x30 .f32) (x1 : Vec F S256x128 .f32) (x2 x3 x4 : Vec F S1x128 .f32) :
    FVec F S1x1x128 .f32 :=
  blockVec x2 x3 x4 (xsOf x1 0 (by decide)) (xsOf x1 64 (by decide)) (xsOf x1 128 (by decide))
    (xsOf x1 192 (by decide))
    (slabOf (scratch x0 0 (by decide)) 0 (by decide)) (slabOf (scratch x0 0 (by decide)) 64 (by decide))
    (slabOf (scratch x0 256 (by decide)) 0 (by decide)) (slabOf (scratch x0 256 (by decide)) 64 (by decide))

/-- A slab's load from a buffer the listed stores were made in. -/
def rawSlab (v : View sig .tc .vmem S30x128x128 .f32) (L : List (View.Piece (Elt F) S30x128x128 .f32))
    (o : ℕ) (ho : o ≤ 64) (k : ℕ) (hk : k < 30) : Vec F S1x64x128 .f32 :=
  v.readCov L (Rect.unit (s := S30x128x128) ![k, o, 0] S1x64x128.size (inb_slab k hk o ho)).toLoadRect

/-- The load of a slab depends only on what the stores leave. -/
theorem rawSlab_eq (v : View sig .tc .vmem S30x128x128 .f32) (L : List (View.Piece (Elt F) S30x128x128 .f32))
    (o : ℕ) (ho : o ≤ 64) : rawSlab v L o ho = slabOf (View.canon L) o ho := by
  funext k hk; exact View.readCov_eq_canon' v L _

/-- The block's contribution as the run reads it, from whole staging buffers. -/
theorem raw_eq (arg1 : Memref sig .tc .vmem S512x64x30 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (arg7 : Memref sig .tc .vmem S30x128x128 .f32) (arg8 : Memref sig .tc .vmem S30x128x128 .f32)
    (x0 : Vec F S512x64x30 .f32) (x1 : Vec F S256x128 .f32) (x2 x3 x4 : Vec F S1x128 .f32) :
    blockVec
      (View.ld (arg3.view.read (Elt F) (harg3.unread x2)) (Rect.unit (s := S1x128) ![0, 0] S1x128.size inb_S1x128_S1x128_0_0))
      (View.ld (arg4.view.read (Elt F) (harg4.unread x3)) (Rect.unit (s := S1x128) ![0, 0] S1x128.size inb_S1x128_S1x128_0_0))
      (View.ld (arg5.view.read (Elt F) (harg5.unread x4)) (Rect.unit (s := S1x128) ![0, 0] S1x128.size inb_S1x128_S1x128_0_0))
      (xsOf (arg2.view.read (Elt F) (harg2.unread x1)) 0 (by decide)) (xsOf (arg2.view.read (Elt F) (harg2.unread x1)) 64 (by decide))
      (xsOf (arg2.view.read (Elt F) (harg2.unread x1)) 128 (by decide)) (xsOf (arg2.view.read (Elt F) (harg2.unread x1)) 192 (by decide))
      (rawSlab arg7.view (rowPieces (arg1.view.read (Elt F) (harg1.unread x0)) 0 (by decide) 128 (le_refl _)) 0 (by decide))
      (rawSlab arg7.view (rowPieces (arg1.view.read (Elt F) (harg1.unread x0)) 0 (by decide) 128 (le_refl _)) 64 (by decide))
      (rawSlab arg8.view (rowPieces (arg1.view.read (Elt F) (harg1.unread x0)) 256 (by decide) 128 (le_refl _)) 0 (by decide))
      (rawSlab arg8.view (rowPieces (arg1.view.read (Elt F) (harg1.unread x0)) 256 (by decide) 128 (le_refl _)) 64 (by decide))
    = pointVec x0 x1 x2 x3 x4 := by
  simp only [harg1.read_unread, harg2.read_unread, harg3.read_unread, harg4.read_unread, harg5.read_unread,
    rawSlab_eq, pointVec, scratch]
  rw [View.ld_unit_zero zeros2, View.ld_unit_zero zeros2, View.ld_unit_zero zeros2]

set_option maxHeartbeats 4000000 in
/-- A later point leaves the row it found plus the block's contribution. -/
theorem out_later (c : Dev nD) (i : grid0.Coords) (arg1 : Memref sig .tc .vmem S512x64x30 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x1x128 .f32) (harg6 : arg6.IsWhole)
    (arg7 : Memref sig .tc .vmem S30x128x128 .f32) (harg7 : arg7.IsWhole) (arg8 : Memref sig .tc .vmem S30x128x128 .f32) (harg8 : arg8.IsWhole) (hc0 : ¬cond0_0 i)
    (x0 : Vec F S512x64x30 .f32) (x1 : Vec F S256x128 .f32) (x2 x3 x4 : Vec F S1x128 .f32) (xo5 : Vec F S1x1x128 .f32) :
    out0_B_5 c i arg1 harg1 arg2 harg2 arg3 harg3 arg4 harg4 arg5 harg5 arg6 harg6 arg7 harg7 arg8 harg8 hc0 x0 x1 x2 x3 x4 xo5 =
      addf (shapeCast S1x1x128 xo5 shapeCasts_S1x1x128_S1x1x128) (pointVec x0 x1 x2 x3 x4) := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo5)]
  unfold kernelRun0_B
  dsimp only
  rw [View.canon_cons_unit_zero zeros3]
  have raw : kernelRun0_B.sl.r_556 c arg1 harg1 arg2 harg2 arg3 harg3 arg4 harg4 arg5 harg5 arg6 harg6 arg7 arg8 x0 x1 x2 x3 x4 xo5 =
      addf (shapeCast S1x1x128 (View.ld (arg6.view.read (Elt F) (harg6.unread xo5)) (Rect.unit (s := S1x1x128) ![0, 0, 0] S1x1x128.size inb_S1x1x128_S1x1x128_0_0_0)) shapeCasts_S1x1x128_S1x1x128)
      (blockVec
      (View.ld (arg3.view.read (Elt F) (harg3.unread x2)) (Rect.unit (s := S1x128) ![0, 0] S1x128.size inb_S1x128_S1x128_0_0))
      (View.ld (arg4.view.read (Elt F) (harg4.unread x3)) (Rect.unit (s := S1x128) ![0, 0] S1x128.size inb_S1x128_S1x128_0_0))
      (View.ld (arg5.view.read (Elt F) (harg5.unread x4)) (Rect.unit (s := S1x128) ![0, 0] S1x128.size inb_S1x128_S1x128_0_0))
      (xsOf (arg2.view.read (Elt F) (harg2.unread x1)) 0 (by decide)) (xsOf (arg2.view.read (Elt F) (harg2.unread x1)) 64 (by decide))
      (xsOf (arg2.view.read (Elt F) (harg2.unread x1)) 128 (by decide)) (xsOf (arg2.view.read (Elt F) (harg2.unread x1)) 192 (by decide))
      (rawSlab arg7.view (rowPieces (arg1.view.read (Elt F) (harg1.unread x0)) 0 (by decide) 128 (le_refl _)) 0 (by decide))
      (rawSlab arg7.view (rowPieces (arg1.view.read (Elt F) (harg1.unread x0)) 0 (by decide) 128 (le_refl _)) 64 (by decide))
      (rawSlab arg8.view (rowPieces (arg1.view.read (Elt F) (harg1.unread x0)) 256 (by decide) 128 (le_refl _)) 0 (by decide))
      (rawSlab arg8.view (rowPieces (arg1.view.read (Elt F) (harg1.unread x0)) 256 (by decide) 128 (le_refl _)) 64 (by decide))) := by
    sl_kernel_rfl
  rw [raw, raw_eq, harg6.read_unread, View.ld_unit_zero zeros3]

set_option maxHeartbeats 4000000 in
/-- The first point leaves zero plus the block's contribution. -/
theorem out_first (c : Dev nD) (i : grid0.Coords) (arg1 : Memref sig .tc .vmem S512x64x30 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x1x128 .f32) (harg6 : arg6.IsWhole)
    (arg7 : Memref sig .tc .vmem S30x128x128 .f32) (harg7 : arg7.IsWhole) (arg8 : Memref sig .tc .vmem S30x128x128 .f32) (harg8 : arg8.IsWhole) (hc0 : cond0_0 i)
    (x0 : Vec F S512x64x30 .f32) (x1 : Vec F S256x128 .f32) (x2 x3 x4 : Vec F S1x128 .f32) :
    out0_A_5 c i arg1 harg1 arg2 harg2 arg3 harg3 arg4 harg4 arg5 harg5 arg6 harg6 arg7 harg7 arg8 harg8 hc0 x0 x1 x2 x3 x4 =
      addf (shapeCast S1x1x128 (broadcast S1x1x128 (Scalar.ofBits .f32 0x00000000#32 : F .f32)) shapeCasts_S1x1x128_S1x1x128) (pointVec x0 x1 x2 x3 x4) := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  rw [View.canon_cons_unit_zero zeros3]
  have raw : kernelRun0_A.sl.r_556 c arg1 harg1 arg2 harg2 arg3 harg3 arg4 harg4 arg5 harg5 arg6 arg7 arg8 x0 x1 x2 x3 x4 =
      addf (shapeCast S1x1x128 (arg6.view.readCov [(⟨Rect.unit (s := S1x1x128) ![0, 0, 0] S1x1x128.size inb_S1x1x128_S1x1x128_0_0_0, (broadcast S1x1x128 (Scalar.ofBits .f32 0x00000000#32 : F .f32))⟩ : View.Piece (Elt F) S1x1x128 .f32)] (Rect.unit (s := S1x1x128) ![0, 0, 0] S1x1x128.size inb_S1x1x128_S1x1x128_0_0_0).toLoadRect) shapeCasts_S1x1x128_S1x1x128)
      (blockVec
      (View.ld (arg3.view.read (Elt F) (harg3.unread x2)) (Rect.unit (s := S1x128) ![0, 0] S1x128.size inb_S1x128_S1x128_0_0))
      (View.ld (arg4.view.read (Elt F) (harg4.unread x3)) (Rect.unit (s := S1x128) ![0, 0] S1x128.size inb_S1x128_S1x128_0_0))
      (View.ld (arg5.view.read (Elt F) (harg5.unread x4)) (Rect.unit (s := S1x128) ![0, 0] S1x128.size inb_S1x128_S1x128_0_0))
      (xsOf (arg2.view.read (Elt F) (harg2.unread x1)) 0 (by decide)) (xsOf (arg2.view.read (Elt F) (harg2.unread x1)) 64 (by decide))
      (xsOf (arg2.view.read (Elt F) (harg2.unread x1)) 128 (by decide)) (xsOf (arg2.view.read (Elt F) (harg2.unread x1)) 192 (by decide))
      (rawSlab arg7.view (rowPieces (arg1.view.read (Elt F) (harg1.unread x0)) 0 (by decide) 128 (le_refl _)) 0 (by decide))
      (rawSlab arg7.view (rowPieces (arg1.view.read (Elt F) (harg1.unread x0)) 0 (by decide) 128 (le_refl _)) 64 (by decide))
      (rawSlab arg8.view (rowPieces (arg1.view.read (Elt F) (harg1.unread x0)) 256 (by decide) 128 (le_refl _)) 0 (by decide))
      (rawSlab arg8.view (rowPieces (arg1.view.read (Elt F) (harg1.unread x0)) 256 (by decide) 128 (le_refl _)) 64 (by decide))) := by
    sl_kernel_rfl
  rw [raw, raw_eq, View.readCov_unit_zero _ zeros3]

end Cert.Proof
-- ==== Proof.Consts.lean ====
module

public import Idealize.ShloMosaic.PureOps.Ideal

/-! The float words of the two programs, read as extended reals. -/

@[expose] public section

open Idealize.ShloMosaic

namespace Cert.Proof

/-- The lower bound on the log scale is the number −7. -/
theorem word_neg_seven : Ideal.ofBits .f32 0xC0E00000#32 = ((-7 : ℝ) : EReal) := by
  simp [Ideal.ofBits, Ideal.ieee, -EReal.coe_mul]; norm_num

/-- The number 2. -/
theorem word_two : Ideal.ofBits .f32 0x40000000#32 = ((2 : ℝ) : EReal) := by
  simp [Ideal.ofBits, Ideal.ieee, -EReal.coe_mul]; norm_num

/-- The threshold on the difference of the two distribution values. -/
theorem word_cut : Ideal.ofBits .f32 0x33D6BF95#32 = ((14073749 / 140737488355328 : ℝ) : EReal) := by
  simp [Ideal.ofBits, Ideal.ieee, -EReal.coe_mul]; norm_num

/-- The floor under the difference before its logarithm is taken. -/
theorem word_floor :
    Ideal.ofBits .f32 0x2B8CBCCC#32 = ((2305843 / 2305843009213693952 : ℝ) : EReal) := by
  simp [Ideal.ofBits, Ideal.ieee, -EReal.coe_mul]; norm_num

/-- The number 1.5. -/
theorem word_three_halves : Ideal.ofBits .f32 0x3FC00000#32 = ((3 / 2 : ℝ) : EReal) := by
  simp [Ideal.ofBits, Ideal.ieee, -EReal.coe_mul]; norm_num

/-- The number 0.5. -/
theorem word_half : Ideal.ofBits .f32 0x3F000000#32 = ((1 / 2 : ℝ) : EReal) := by
  simp [Ideal.ofBits, Ideal.ieee, -EReal.coe_mul]; norm_num

/-- The left threshold on `x` is a real number. -/
theorem word_lo : Ideal.ofBits .f32 0xBF7FF972#32 = ((-(8387769 / 8388608) : ℝ) : EReal) := by
  simp [Ideal.ofBits, Ideal.ieee, -EReal.coe_mul]; norm_num

/-- The right threshold on `x` is a real number. -/
theorem word_hi : Ideal.ofBits .f32 0x3F7FF972#32 = ((8387769 / 8388608 : ℝ) : EReal) := by
  simp [Ideal.ofBits, Ideal.ieee, -EReal.coe_mul]; norm_num

/-- The word of −∞ is `⊥`. -/
theorem word_bot : Ideal.ofBits .f32 0xFF800000#32 = ⊥ := by
  simp [Ideal.ofBits, Ideal.ieee]

/-- The word of +∞ is `⊤`. -/
theorem word_top : Ideal.ofBits .f32 0x7F800000#32 = ⊤ := by
  simp [Ideal.ofBits, Ideal.ieee]

end Cert.Proof
-- ==== Proof.Elem.lean ====
module

public import Idealize.ShloMosaic.PureOps.Ideal

/-! The log-probability of one component of the mixture over the extended reals: the kernel's formula
and the reference's are one function wherever centre, log scale and half bin are real numbers. -/

@[expose] public section

noncomputable section

open Idealize.ShloMosaic

namespace Cert.Proof

/-- The reference's soft plus. -/
def softplus (z : EReal) : EReal :=
  if z ≠ z then z else max z 0 + Ideal.log1p (Ideal.exp (-(max z (-z))))

/-- The kernel's `log (1 + exp (−z))`. -/
def lognexp (z : EReal) : EReal := Ideal.log (1 + Ideal.exp (0 - z))

/-- The kernel's logarithm of the difference of the two distribution values. -/
def kDelta (p q : EReal) : EReal :=
  Ideal.log (Ideal.exp (0 - q) - Ideal.exp (0 - p)) - lognexp p - lognexp q

/-- The kernel's formula from the scaled centre `a`, the scaled edges `p` and `q`. -/
def kPick (lo hi lc x a p q lsc g : EReal) : EReal :=
  if x < lo then 0 - lognexp p
  else if hi < x then 0 - q - lognexp q
  else if lc < kDelta p q then kDelta p q
  else 0 - a - ((2 : ℝ) : EReal) * lognexp a - lsc - g

/-- The kernel's log-probability of a component. -/
def kComp (lo hi lc half g x u ls : EReal) : EReal :=
  kPick lo hi lc x
    (Ideal.exp (0 - max ls ((-7 : ℝ) : EReal)) * (x - u))
    (Ideal.exp (0 - max ls ((-7 : ℝ) : EReal)) * (x - u) + Ideal.exp (0 - max ls ((-7 : ℝ) : EReal)) * half)
    (Ideal.exp (0 - max ls ((-7 : ℝ) : EReal)) * (x - u) - Ideal.exp (0 - max ls ((-7 : ℝ) : EReal)) * half)
    (max ls ((-7 : ℝ) : EReal)) g

/-- The reference's difference of the two distribution values. -/
def rDelta (p q : EReal) : EReal :=
  Ideal.div 1 (1 + Ideal.exp (-p)) - Ideal.div 1 (1 + Ideal.exp (-q))

/-- The reference's formula from the scaled centre and edges. -/
def rPick (lo hi cut floor x a p q lsc g : EReal) : EReal :=
  if x < lo then p - softplus p
  else if hi < x then -softplus q
  else if cut < rDelta p q then Ideal.log (max (rDelta p q) floor)
  else a - lsc - ((2 : ℝ) : EReal) * softplus a - g

/-- The reference's log-probability of a component. -/
def rComp (lo hi cut floor half g x u ls : EReal) : EReal :=
  rPick lo hi cut floor x
    (Ideal.exp (-max ls ((-7 : ℝ) : EReal)) * (x - u))
    (Ideal.exp (-max ls ((-7 : ℝ) : EReal)) * (x - u + half))
    (Ideal.exp (-max ls ((-7 : ℝ) : EReal)) * (x - u - half))
    (max ls ((-7 : ℝ) : EReal)) g

/-- At a real number the kernel's term is a real logarithm. -/
theorem lognexp_coe (z : ℝ) : lognexp (z : EReal) = ((Real.log (1 + Real.exp (-z)) : ℝ) : EReal) := by
  have h : ¬ (1 + Real.exp (-z) ≤ 0) := by have := Real.exp_pos (-z); linarith
  rw [lognexp, zero_sub, ← EReal.coe_neg, Ideal.exp_coe, ← EReal.coe_one, ← EReal.coe_add,
    Ideal.log_coe, if_neg h]

/-- At `−∞` the kernel's term is `+∞`. -/
theorem lognexp_bot : lognexp ⊥ = ⊤ := by
  have h : (1 : EReal) + ⊤ = ⊤ := EReal.add_top_of_ne_bot (EReal.coe_ne_bot 1)
  simp [lognexp, h]

/-- The soft plus of a real number. -/
theorem softplus_coe (z : ℝ) :
    softplus (z : EReal) = ((z + Real.log (1 + Real.exp (-z)) : ℝ) : EReal) := by
  have hp : ∀ y : ℝ, 0 < 1 + Real.exp y := fun y => by have := Real.exp_pos y; linarith
  rw [softplus, if_neg (not_not.mpr rfl)]
  rcases le_total 0 z with hz | hz
  · have h1 : max (z : EReal) 0 = z := max_eq_left (by exact_mod_cast hz)
    have h2 : max (z : EReal) (-z) = z := max_eq_left (by rw [← EReal.coe_neg]; exact_mod_cast (by linarith))
    rw [h1, h2, ← EReal.coe_neg, Ideal.exp_coe, Ideal.log1p, ← EReal.coe_one, ← EReal.coe_add,
      Ideal.log_coe, if_neg (not_le.mpr (hp _)), ← EReal.coe_add]
  · have h1 : max (z : EReal) 0 = 0 := max_eq_right (by exact_mod_cast hz)
    have h2 : max (z : EReal) (-z) = -z := max_eq_right (by rw [← EReal.coe_neg]; exact_mod_cast (by linarith))
    have h3 : Real.log (1 + Real.exp z) = z + Real.log (1 + Real.exp (-z)) := by
      have : 1 + Real.exp z = Real.exp z * (1 + Real.exp (-z)) := by
        rw [mul_add, ← Real.exp_add]; simp [add_comm]
      rw [this, Real.log_mul (Real.exp_pos z).ne' (hp _).ne', Real.log_exp]
    rw [h1, h2, neg_neg, Ideal.exp_coe, Ideal.log1p, ← EReal.coe_one, ← EReal.coe_add,
      Ideal.log_coe, if_neg (not_le.mpr (hp _)), zero_add, h3]

/-- The difference of the distribution values at real edges `q < p`, as a product of logarithms' arguments. -/
theorem delta_real (p q : ℝ) :
    1 / (1 + Real.exp (-p)) - 1 / (1 + Real.exp (-q)) =
      (Real.exp (-q) - Real.exp (-p)) / ((1 + Real.exp (-p)) * (1 + Real.exp (-q))) := by
  have h1 : 1 + Real.exp (-p) ≠ 0 := by have := Real.exp_pos (-p); positivity
  have h2 : 1 + Real.exp (-q) ≠ 0 := by have := Real.exp_pos (-q); positivity
  field_simp
  ring

/-- The reference's difference at real numbers. -/
theorem rDelta_coe (p q : ℝ) : rDelta (p : EReal) (q : EReal) =
    (((Real.exp (-q) - Real.exp (-p)) / ((1 + Real.exp (-p)) * (1 + Real.exp (-q))) : ℝ) : EReal) := by
  have h1 : 1 + Real.exp (-p) ≠ 0 := by have := Real.exp_pos (-p); positivity
  have h2 : 1 + Real.exp (-q) ≠ 0 := by have := Real.exp_pos (-q); positivity
  rw [rDelta, ← EReal.coe_neg, ← EReal.coe_neg, Ideal.exp_coe, Ideal.exp_coe, ← EReal.coe_one,
    ← EReal.coe_add, ← EReal.coe_add, Ideal.div_coe h1, Ideal.div_coe h2, ← EReal.coe_mul, ← EReal.coe_mul,
    ← EReal.coe_sub, one_mul, one_mul, delta_real]

/-- The kernel's logarithm of the difference at real numbers. -/
theorem kDelta_coe (p q : ℝ) (h : q < p) : kDelta (p : EReal) (q : EReal) =
    ((Real.log ((Real.exp (-q) - Real.exp (-p)) / ((1 + Real.exp (-p)) * (1 + Real.exp (-q)))) : ℝ) : EReal) := by
  have h0 : 0 < Real.exp (-q) - Real.exp (-p) := sub_pos.mpr (Real.exp_lt_exp.mpr (by linarith))
  have h1 : 1 + Real.exp (-p) ≠ 0 := by have := Real.exp_pos (-p); positivity
  have h2 : 1 + Real.exp (-q) ≠ 0 := by have := Real.exp_pos (-q); positivity
  rw [kDelta, lognexp_coe, lognexp_coe, zero_sub, zero_sub, ← EReal.coe_neg, ← EReal.coe_neg, Ideal.exp_coe,
    Ideal.exp_coe, ← EReal.coe_sub, Ideal.log_coe, if_neg (not_le.mpr h0), ← EReal.coe_sub, ← EReal.coe_sub,
    Real.log_div h0.ne' (mul_ne_zero h1 h2), Real.log_mul h1 h2, sub_sub]

/-- At real arguments the two formulas are equal. -/
theorem pick_real (lo hi : EReal) (cut floor : ℝ) (hc : 0 < cut) (hf : floor ≤ cut) (x a p q lsc : ℝ) (g : EReal)
    (h : q < p) :
    kPick lo hi ((Real.log cut : ℝ) : EReal) x a p q lsc g = rPick lo hi cut floor x a p q lsc g := by
  have hd : 0 < (Real.exp (-q) - Real.exp (-p)) / ((1 + Real.exp (-p)) * (1 + Real.exp (-q))) := by
    have h0 : 0 < Real.exp (-q) - Real.exp (-p) := sub_pos.mpr (Real.exp_lt_exp.mpr (by linarith))
    have := Real.exp_pos (-p); have := Real.exp_pos (-q); positivity
  unfold kPick rPick
  rw [kDelta_coe p q h, rDelta_coe p q, softplus_coe, softplus_coe, softplus_coe, lognexp_coe, lognexp_coe,
    lognexp_coe]
  generalize (Real.exp (-q) - Real.exp (-p)) / ((1 + Real.exp (-p)) * (1 + Real.exp (-q))) = D at hd
  split
  · rw [zero_sub, ← EReal.coe_neg, ← EReal.coe_sub]; congr 1; ring
  split
  · rw [zero_sub, ← EReal.coe_neg, ← EReal.coe_neg, ← EReal.coe_sub]; congr 1; ring
  by_cases hD : cut < D
  · have h1 : ((Real.log cut : ℝ) : EReal) < ((Real.log D : ℝ) : EReal) :=
      EReal.coe_lt_coe_iff.mpr (Real.log_lt_log hc hD)
    have h2 : max (D : EReal) (floor : EReal) = D :=
      max_eq_left (EReal.coe_le_coe_iff.mpr (by linarith))
    rw [if_pos h1, if_pos (EReal.coe_lt_coe_iff.mpr hD), h2, Ideal.log_coe, if_neg (not_le.mpr hd)]
  · have h1 : ¬ ((Real.log cut : ℝ) : EReal) < ((Real.log D : ℝ) : EReal) := fun h' =>
      hD ((Real.log_lt_log_iff hc hd).mp (EReal.coe_lt_coe_iff.mp h'))
    rw [if_neg h1, if_neg (fun h' => hD (EReal.coe_lt_coe_iff.mp h'))]
    congr 1
    rw [zero_sub, ← EReal.coe_neg, ← EReal.coe_mul, ← EReal.coe_mul, ← EReal.coe_sub, ← EReal.coe_sub,
      ← EReal.coe_sub, ← EReal.coe_sub]
    congr 1; ring

/-- The larger of a real number and a real bound is a real number. -/
theorem exists_max (l b : ℝ) : ∃ r : ℝ, max (l : EReal) (b : EReal) = (r : EReal) :=
  ⟨max l b, (EReal.coe_strictMono.monotone.map_max).symm⟩

/-- The kernel's log-probability of a component is the reference's, at any `x`. -/
theorem comp_eq (lo hi : EReal) (hlo : ⊥ < lo) (hhi : hi < ⊤) (cut floor : ℝ) (hc : 0 < cut) (hf : floor ≤ cut)
    (half : ℝ) (hh : 0 < half) (g : EReal) (x : EReal) (u ls : ℝ) :
    kComp lo hi ((Real.log cut : ℝ) : EReal) half g x u ls = rComp lo hi cut floor half g x u ls := by
  obtain ⟨s, hs⟩ := exists_max ls (-7)
  have hI : (0 : ℝ) < Real.exp (-s) := Real.exp_pos _
  unfold kComp rComp
  rw [hs, zero_sub, ← EReal.coe_neg, Ideal.exp_coe]
  induction x with
  | coe x =>
    rw [← EReal.coe_sub, ← EReal.coe_sub, ← EReal.coe_add, ← EReal.coe_mul, ← EReal.coe_mul, ← EReal.coe_mul,
      ← EReal.coe_mul, ← EReal.coe_sub, ← EReal.coe_add, mul_add, mul_sub (Real.exp (-s)) (x - u)]
    exact pick_real lo hi cut floor hc hf _ _ _ _ _ g (by have := mul_pos hI hh; linarith)
  | top =>
    rw [EReal.top_sub_coe, EReal.top_sub_coe, EReal.coe_mul_top_of_pos hI, ← EReal.coe_mul, EReal.top_sub_coe]
    have h1 : ¬ (⊤ : EReal) < lo := not_top_lt
    unfold kPick rPick
    rw [if_neg h1, if_neg h1, if_pos hhi, if_pos hhi]
    have : softplus ⊤ = ⊤ := by
      simp [softplus, Ideal.log1p]
      rw [← EReal.coe_one, Ideal.log_coe]; simp
    rw [this]
    simp
  | bot =>
    rw [EReal.bot_sub, EReal.coe_mul_bot_of_pos hI, EReal.bot_add, EReal.bot_add, EReal.coe_mul_bot_of_pos hI]
    unfold kPick rPick
    rw [if_pos hlo, if_pos hlo]
    rw [lognexp_bot]
    simp

/-- With a half bin's logarithm real, the log-probability is never `+∞`. -/
theorem comp_ne_top (lo hi : EReal) (hlo : ⊥ < lo) (hhi : hi < ⊤) (cut : ℝ)
    (half : ℝ) (hh : 0 < half) (g : ℝ) (x : EReal) (u ls : ℝ) :
    kComp lo hi ((Real.log cut : ℝ) : EReal) half g x u ls ≠ ⊤ := by
  obtain ⟨s, hs⟩ := exists_max ls (-7)
  have hI : (0 : ℝ) < Real.exp (-s) := Real.exp_pos _
  unfold kComp
  rw [hs, zero_sub, ← EReal.coe_neg, Ideal.exp_coe]
  induction x with
  | coe x =>
    rw [← EReal.coe_sub, ← EReal.coe_mul, ← EReal.coe_mul, ← EReal.coe_sub, ← EReal.coe_add]
    unfold kPick
    have hpq : Real.exp (-s) * (x - u) - Real.exp (-s) * half < Real.exp (-s) * (x - u) + Real.exp (-s) * half := by
      have := mul_pos hI hh; linarith
    rw [kDelta_coe _ _ hpq, lognexp_coe, lognexp_coe, lognexp_coe, zero_sub, zero_sub, zero_sub, ← EReal.coe_neg,
      ← EReal.coe_neg, ← EReal.coe_neg, ← EReal.coe_sub, ← EReal.coe_mul, ← EReal.coe_sub, ← EReal.coe_sub,
      ← EReal.coe_sub]
    split
    · exact EReal.coe_ne_top _
    split
    · exact EReal.coe_ne_top _
    split
    · exact EReal.coe_ne_top _
    · exact EReal.coe_ne_top _
  | top =>
    rw [EReal.top_sub_coe, EReal.coe_mul_top_of_pos hI, ← EReal.coe_mul, EReal.top_sub_coe]
    unfold kPick
    rw [if_neg not_top_lt, if_pos hhi]
    simp
  | bot =>
    rw [EReal.bot_sub, EReal.coe_mul_bot_of_pos hI, EReal.bot_add]
    unfold kPick
    rw [if_pos hlo]
    rw [lognexp_bot]
    simp

end Cert.Proof
-- ==== Proof.Lse.lean ====
module

public import Idealize.ShloMosaic.PureOps.Ideal

/-! Logarithms of sums of exponentials over the extended reals: the kernel's running form and the
reference's shifted form both compute `log (Σ exp)` of values that are not `+∞`. -/

@[expose] public section

noncomputable section

open Idealize.ShloMosaic

namespace Cert.Proof

/-- The exponential of a value that is not `+∞`, as a real number. -/
def ereal (s : EReal) : ℝ := (Ideal.exp s).toReal

/-- Below `+∞` the exponential is a real number. -/
theorem exp_eq {s : EReal} (h : s ≠ ⊤) : Ideal.exp s = (ereal s : EReal) := by
  induction s with
  | coe r => simp [ereal]
  | top => exact absurd rfl h
  | bot => simp [ereal]

/-- It is not negative. -/
theorem ereal_nonneg (s : EReal) : 0 ≤ ereal s := by
  induction s with
  | coe r => simpa [ereal] using (Real.exp_pos r).le
  | top => simp [ereal]
  | bot => simp [ereal]

/-- At a real number it is the real exponential. -/
theorem ereal_coe (r : ℝ) : ereal r = Real.exp r := by simp [ereal]

/-- At `−∞` it is zero. -/
theorem ereal_bot : ereal ⊥ = 0 := by simp [ereal]

/-- One step of the running sum of exponentials, relative to the maximum so far. -/
def stepAcc (rm acc s : EReal) : EReal := acc * Ideal.exp (rm - max rm s) + Ideal.exp (s - max rm s)

/-- What the running pair says of the sum `S` of the exponentials seen so far. -/
def Running (S : ℝ) (rm acc : EReal) : Prop :=
  (rm = ⊥ ∧ S = 0 ∧ ∃ A : ℝ, 0 ≤ A ∧ acc = A) ∨
    ∃ R A : ℝ, rm = R ∧ acc = A ∧ 0 < A ∧ A * Real.exp R = S

/-- The first value starts the running pair. -/
theorem running_first {s : EReal} (h : s ≠ ⊤) : Running (ereal s) s 1 := by
  induction s with
  | coe r => exact .inr ⟨r, 1, rfl, rfl, one_pos, by rw [ereal_coe, one_mul]⟩
  | top => exact absurd rfl h
  | bot => exact .inl ⟨rfl, ereal_bot, 1, zero_le_one, rfl⟩

/-- A step keeps the running pair. -/
theorem running_step {S : ℝ} {rm acc s : EReal} (hr : Running S rm acc) (h : s ≠ ⊤) :
    Running (S + ereal s) (max rm s) (stepAcc rm acc s) := by
  rcases hr with ⟨rfl, rfl, A, hA, rfl⟩ | ⟨R, A, rfl, rfl, hA, rfl⟩
  · induction s with
    | coe r =>
      refine .inr ⟨r, 1, by simp, ?_, one_pos, by rw [ereal_coe]; ring⟩
      have : ((r : ℝ) : EReal) - r = 0 := by rw [← EReal.coe_sub, sub_self]; rfl
      rw [stepAcc, max_eq_right bot_le, EReal.bot_sub, Ideal.exp_bot, mul_zero, zero_add, this, ← EReal.coe_zero,
        Ideal.exp_coe, Real.exp_zero]
    | top => exact absurd rfl h
    | bot =>
      refine .inl ⟨by simp, by rw [ereal_bot, add_zero], 0, le_refl _, ?_⟩
      simp [stepAcc]
  · induction s with
    | coe r =>
      have hm : max (R : EReal) (r : EReal) = ((max R r : ℝ) : EReal) :=
        (EReal.coe_strictMono.monotone.map_max).symm
      refine .inr ⟨max R r, A * Real.exp (R - max R r) + Real.exp (r - max R r), hm, ?_, by positivity, ?_⟩
      · rw [stepAcc, hm, ← EReal.coe_sub, ← EReal.coe_sub, Ideal.exp_coe, Ideal.exp_coe, ← EReal.coe_mul,
          ← EReal.coe_add]
      · rw [ereal_coe, add_mul, mul_assoc, ← Real.exp_add, ← Real.exp_add, sub_add_cancel, sub_add_cancel]
    | top => exact absurd rfl h
    | bot =>
      refine .inr ⟨R, A, by simp, ?_, hA, by rw [ereal_bot, add_zero]⟩
      have : ((R : ℝ) : EReal) - R = 0 := by rw [← EReal.coe_sub, sub_self]; rfl
      rw [stepAcc, max_eq_left bot_le, EReal.bot_sub, Ideal.exp_bot, add_zero, this, ← EReal.coe_zero, Ideal.exp_coe,
        Real.exp_zero, EReal.coe_one, mul_one]

/-- The running pair's log-sum-exp is the logarithm of the sum. -/
theorem running_log {S : ℝ} {rm acc : EReal} (hr : Running S rm acc) :
    rm + Ideal.log acc = Ideal.log (S : EReal) := by
  rcases hr with ⟨rfl, rfl, A, hA, rfl⟩ | ⟨R, A, rfl, rfl, hA, rfl⟩
  · rw [EReal.bot_add, Ideal.log_coe, if_pos (le_refl _)]
  · have hp := Real.exp_pos R
    rw [Ideal.log_coe, if_neg (not_le.mpr hA), Ideal.log_coe, if_neg (not_le.mpr (by positivity)),
      Real.log_mul hA.ne' hp.ne', Real.log_exp, ← EReal.coe_add, add_comm]

/-- The sum of exponentials is the sum of their real values. -/
theorem sum_exp {ι : Type} [Fintype ι] (v : ι → EReal) (h : ∀ k, v k ≠ ⊤) :
    ∑ k, Ideal.exp (v k) = ((∑ k, ereal (v k) : ℝ) : EReal) := by
  rw [Finset.sum_congr rfl fun k _ => exp_eq (h k)]
  exact (map_sum (⟨⟨Real.toEReal, rfl⟩, EReal.coe_add⟩ : ℝ →+ EReal) _ _).symm

/-- Taking a real number away doesn't make `+∞`. -/
theorem sub_real_ne_top {a : EReal} (h : a ≠ ⊤) (T : ℝ) : a - T ≠ ⊤ := by
  induction a with
  | coe r => rw [← EReal.coe_sub]; exact EReal.coe_ne_top _
  | top => exact absurd rfl h
  | bot => simp

/-- Adding a real number doesn't make `+∞`. -/
theorem add_real_ne_top {a : EReal} (h : a ≠ ⊤) (T : ℝ) : a + T ≠ ⊤ := by
  induction a with
  | coe r => rw [← EReal.coe_add]; exact EReal.coe_ne_top _
  | top => exact absurd rfl h
  | bot => simp

/-- A real shift scales the exponential. -/
theorem ereal_sub {a : EReal} (h : a ≠ ⊤) (T : ℝ) : ereal (a - T) = ereal a * Real.exp (-T) := by
  induction a with
  | coe r => rw [← EReal.coe_sub, ereal_coe, ereal_coe, ← Real.exp_add, sub_eq_add_neg]
  | top => exact absurd rfl h
  | bot => rw [EReal.bot_sub, ereal_bot, zero_mul]

/-- Adding a difference of real numbers that share a term. -/
theorem add_normalised {a : EReal} (h : a ≠ ⊤) (t M Z : ℝ) :
    a + ((t : EReal) - M - ((Z : EReal) - M)) = a + t - Z := by
  rw [← EReal.coe_sub, ← EReal.coe_sub, ← EReal.coe_sub]
  induction a with
  | coe r => rw [← EReal.coe_add, ← EReal.coe_add, ← EReal.coe_sub]; congr 1; ring
  | top => exact absurd rfl h
  | bot => simp

/-- A real shift inside the exponentials comes out of the logarithm. -/
theorem log_sum_shift {ι : Type} [Fintype ι] (v : ι → EReal) (h : ∀ k, v k ≠ ⊤) (T : ℝ) :
    Ideal.log (∑ k, Ideal.exp (v k - T)) = Ideal.log (∑ k, Ideal.exp (v k)) - T := by
  have hs : ∀ k, v k - T ≠ ⊤ := fun k => sub_real_ne_top (h k) T
  have he : ∀ k, ereal (v k - T) = ereal (v k) * Real.exp (-T) := fun k => ereal_sub (h k) T
  rw [sum_exp _ hs, sum_exp _ h, Finset.sum_congr rfl fun k _ => he k, ← Finset.sum_mul]
  have h0 : 0 ≤ ∑ k, ereal (v k) := Finset.sum_nonneg fun k _ => ereal_nonneg _
  generalize ∑ k, ereal (v k) = S at h0
  have hp := Real.exp_pos (-T)
  rcases h0.eq_or_lt with rfl | h0
  · rw [zero_mul, Ideal.log_coe, if_pos (le_refl _), EReal.bot_sub]
  · rw [Ideal.log_coe, if_neg (not_le.mpr (by positivity)), Ideal.log_coe, if_neg (not_le.mpr h0),
      Real.log_mul h0.ne' hp.ne', Real.log_exp, ← EReal.coe_sub, sub_eq_add_neg]

/-- The log-sum-exp of real numbers is a real number. -/
theorem log_sum_real {n : ℕ} (t : Fin (n + 1) → ℝ) :
    ∃ Z : ℝ, Ideal.log (∑ k, Ideal.exp (t k : EReal)) = (Z : EReal) := by
  rw [sum_exp _ fun k => EReal.coe_ne_top _]
  have : 0 < ∑ k, ereal (t k : EReal) :=
    Finset.sum_pos (fun k _ => by rw [ereal_coe]; exact Real.exp_pos _) Finset.univ_nonempty
  exact ⟨_, by rw [Ideal.log_coe, if_neg (not_le.mpr this)]⟩

/-- The reference's mixture — the log-sum-exp of log-probabilities plus normalised logits, taken about
a real `T`, the logits normalised about a real `M` — is the difference of two log-sum-exps. -/
theorem mixture_eq {n : ℕ} (lp : Fin (n + 1) → EReal) (hlp : ∀ k, lp k ≠ ⊤) (t : Fin (n + 1) → ℝ) (M T : ℝ) :
    Ideal.log (∑ k, Ideal.exp (lp k + ((t k : EReal) - M - Ideal.log (∑ j, Ideal.exp ((t j : EReal) - M))) - T)) + T =
      Ideal.log (∑ k, Ideal.exp (lp k + t k)) - Ideal.log (∑ k, Ideal.exp (t k : EReal)) := by
  obtain ⟨Z, hZ⟩ := log_sum_real t
  rw [log_sum_shift (fun k => (t k : EReal)) (fun k => EReal.coe_ne_top _) M, hZ]
  have ht : ∀ k, lp k + t k ≠ ⊤ := fun k => add_real_ne_top (hlp k) (t k)
  have hz : ∀ k, lp k + t k - (Z : EReal) ≠ ⊤ := fun k => sub_real_ne_top (ht k) Z
  have hn : ∀ k, lp k + ((t k : EReal) - M - ((Z : EReal) - M)) = lp k + t k - Z :=
    fun k => add_normalised (hlp k) (t k) M Z
  simp only [hn]
  rw [log_sum_shift _ hz T, log_sum_shift _ ht Z]
  induction Ideal.log (∑ k, Ideal.exp (lp k + (t k : EReal))) using EReal.rec with
  | coe r => rw [← EReal.coe_sub, ← EReal.coe_sub, ← EReal.coe_add]; congr 1; ring
  | top => simp
  | bot => simp

/-- The greatest of real numbers, from `−∞` on, is a real number. -/
theorem fold_max_real {n : ℕ} (t : Fin (n + 1) → ℝ) :
    ∃ M : ℝ, Finset.fold max ⊥ (fun k => (t k : EReal)) Finset.univ = (M : EReal) := by
  have hs : Finset.fold max ⊥ (fun k => (t k : EReal)) Finset.univ = Finset.univ.sup fun k => (t k : EReal) := rfl
  have h1 : Finset.univ.sup (fun k => (t k : EReal)) ≠ ⊤ :=
    ((Finset.sup_lt_iff bot_lt_top).mpr fun k _ => EReal.coe_lt_top _).ne
  have h2 : Finset.univ.sup (fun k => (t k : EReal)) ≠ ⊥ :=
    (lt_of_lt_of_le (EReal.bot_lt_coe (t 0)) (Finset.le_sup (f := fun k => (t k : EReal)) (Finset.mem_univ 0))).ne'
  exact ⟨_, by rw [hs, EReal.coe_toReal h1 h2]⟩

/-- A value kept only where its magnitude is below `+∞`, zero elsewhere, is a real number. -/
theorem guarded_real (y : EReal) : ∃ T : ℝ, (if max y (-y) < ⊤ then y else 0) = (T : EReal) := by
  induction y with
  | coe r => exact ⟨if max (r : EReal) (-r) < ⊤ then r else 0, by split <;> rfl⟩
  | top => exact ⟨0, by simp⟩
  | bot => exact ⟨0, by simp⟩

end Cert.Proof
-- ==== Proof.BodyAt.lean ====
module

public import proofs.«01_k».proof.Proof.Body
public import proofs.«01_k».proof.Proof.Consts
public import proofs.«01_k».proof.Proof.Elem
public import proofs.«01_k».proof.Proof.Lse
public import Idealize.ShloMosaic.Lib.Pointwise

/-! The block's vectors read at one index, over the extended reals. -/

@[expose] public section

noncomputable section

open Idealize.ShloMosaic Idealize.ShloMosaic.Tactic Cert.KernelIdeal Cert.KernelIdeal.Gen

namespace Cert.Proof

/-- The lower edge of `x`. -/
abbrev loEdge : EReal := Ideal.ofBits .f32 0xBF7FF972#32

/-- The upper edge of `x`. -/
abbrev hiEdge : EReal := Ideal.ofBits .f32 0x3F7FF972#32

/-- The threshold on the difference of the two distribution values, as a real number. -/
abbrev cutReal : ℝ := 14073749 / 140737488355328

/-- The clamp is `+∞`. -/
theorem named_clamp : Named.named (F := Ideal) Cert.KernelIdeal.κ "clamp" (φ := .f32) 0x42A00000#32 = ⊤ :=
  IdealRules.named_const.ideal_named_scalar _ _ _ _ rfl

/-- The negated clamp is `−∞`. -/
theorem named_neg_clamp :
    Named.named (F := Ideal) Cert.KernelIdeal.κ "neg_clamp" (φ := .f32) 0xC2A00000#32 = ⊥ :=
  IdealRules.named_const.ideal_named_scalar _ _ _ _ rfl

/-- The threshold is the logarithm of the reference's threshold. -/
theorem named_log_cut :
    Named.named (F := Ideal) Cert.KernelIdeal.κ "log_cut" (φ := .f32) 0xC180F1DC#32 =
      ((Real.log cutReal : ℝ) : EReal) :=
  IdealRules.named_const.ideal_named_scalar _ _ _ _ rfl

/-- The log-probability of a component at one index. -/
theorem comp_at (hv gv : FVec Ideal S1x128 .f32) (ok : IVec S1x128 1) (xs : FVec Ideal S64x128 .f32)
    (mu ls : Vec Ideal S1x64x128 .f32) (r : Fin 64) (c : Fin 128) :
    compVec hv gv ok xs (cmpf .olt xs (splat 0xBF7FF972#32)) (cmpf .ogt xs (splat 0x3F7FF972#32)) mu ls (ix2 r c) =
      Scalar.select (ok (ix2 0 c))
        (kComp loEdge hiEdge ((Real.log cutReal : ℝ) : EReal) (hv (ix2 0 c)) (gv (ix2 0 c)) (xs (ix2 r c))
          (mu (ix3 0 r c)) (ls (ix3 0 r c))) 0 := by
  pointwise [compVec, farLeft, logOnePlus, expNeg, negv, splat, splatNamed]
  simp only [named_clamp, named_neg_clamp, named_log_cut, word_neg_seven, word_two, min_top_right, not_lt_bot,
    if_false, kComp, kPick, lognexp, kDelta, loEdge, hiEdge]
  rfl

/-- One step of the running sum at one index. -/
theorem step_at (rm acc s : FVec Ideal S64x128 .f32) (r : Fin 64) (c : Fin 128) :
    stepVec rm acc s (ix2 r c) = stepAcc (rm (ix2 r c)) (acc (ix2 r c)) (s (ix2 r c)) := by
  pointwise [stepVec, stepAcc]

/-- The running maximum at one index. -/
theorem max_at (a b : FVec Ideal S64x128 .f32) (r : Fin 64) (c : Fin 128) :
    maximumf a b (ix2 r c) = max (a (ix2 r c)) (b (ix2 r c)) := by
  pointwise

/-- The running log-sum-exp of ten vectors at one index, where none of them is `+∞`. -/
theorem lse_at (s : Fin 10 → FVec Ideal S64x128 .f32) (r : Fin 64) (c : Fin 128)
    (h : ∀ k, s k (ix2 r c) ≠ ⊤) :
    lseVec (s 0) (s 1) (s 2) (s 3) (s 4) (s 5) (s 6) (s 7) (s 8) (s 9) (ix2 r c) =
      Ideal.log (∑ k, Ideal.exp (s k (ix2 r c))) := by
  have one : (splat 0x3F800000#32 : FVec Ideal S64x128 .f32) (ix2 r c) = 1 := by pointwise [splat]
  have run := running_step (running_step (running_step (running_step (running_step (running_step (running_step
    (running_step (running_step (running_first (h 0)) (h 1)) (h 2)) (h 3)) (h 4)) (h 5)) (h 6)) (h 7)) (h 8)) (h 9)
  rw [sum_exp _ h]
  simp only [lseVec]
  have read : ∀ a b : FVec Ideal S64x128 .f32, addf a (log b) (ix2 r c) = a (ix2 r c) + Ideal.log (b (ix2 r c)) :=
    fun a b => by pointwise
  rw [read]
  simp only [step_at, max_at, one]
  rw [running_log run]
  congr 2
  simp only [Fin.sum_univ_castSucc, Finset.univ_eq_empty, Finset.sum_empty, zero_add]
  rfl

/-- The sum of a slab's rows at one lane. -/
theorem rowSum_at (v : FVec Ideal S64x128 .f32) (c : Fin 128) :
    rowSum v (ix2 0 c) = ∑ r : Fin 64, v (ix2 r c) := by
  pointwise [rowSum]

/-- The kernel's mixture at one index: the log-probability plus logit, and the logit, each through a
log-sum-exp. -/
def kMix (ok : BitVec 1) (half g x : EReal) (p : Fin 30 → EReal) : EReal :=
  Ideal.log (∑ k : Fin 10, Ideal.exp (Scalar.select ok
      (kComp loEdge hiEdge ((Real.log cutReal : ℝ) : EReal) half g x (p ⟨10 + k, by omega⟩) (p ⟨20 + k, by omega⟩)) 0
      + p ⟨k, by omega⟩)) -
    Ideal.log (∑ k : Fin 10, Ideal.exp (p ⟨k, by omega⟩))

/-- The mixture on a slab at one index, where the parameters are real numbers. -/
theorem mix_at (hv gv : FVec Ideal S1x128 .f32) (ok : IVec S1x128 1) (xs : FVec Ideal S64x128 .f32)
    (blk : (k : ℕ) → k < 30 → Vec Ideal S1x64x128 .f32) (r : Fin 64) (c : Fin 128)
    (half g : ℝ) (hhalf : hv (ix2 0 c) = half) (hpos : 0 < half) (hg : gv (ix2 0 c) = g)
    (p : Fin 30 → ℝ) (hp : ∀ k : Fin 30, blk k k.isLt (ix3 0 r c) = p k) :
    mixVec hv gv ok xs blk (ix2 r c) = kMix (ok (ix2 0 c)) half g (xs (ix2 r c)) (fun k => p k) := by
  let L : Fin 10 → FVec Ideal S64x128 .f32 := fun k =>
    shapeCast S64x128 (blk k.val (by omega)) shapeCasts_S1x64x128_S64x128
  let S : Fin 10 → FVec Ideal S64x128 .f32 := fun k =>
    addf (compVec hv gv ok xs (cmpf .olt xs (splat 0xBF7FF972#32)) (cmpf .ogt xs (splat 0x3F7FF972#32))
      (blk (10 + k.val) (by omega)) (blk (20 + k.val) (by omega))) (L k)
  have hL : ∀ k, L k (ix2 r c) = p ⟨k, by omega⟩ := fun k => by
    rw [← hp ⟨k, by omega⟩]
    show shapeCast S64x128 (blk k.val _) _ _ = _
    pointwise
  have hS : ∀ k, S k (ix2 r c) = Scalar.select (ok (ix2 0 c))
      (kComp loEdge hiEdge ((Real.log cutReal : ℝ) : EReal) half g (xs (ix2 r c)) (p ⟨10 + k, by omega⟩)
        (p ⟨20 + k, by omega⟩)) 0 + p ⟨k, by omega⟩ := fun k => by
    show (compVec hv gv ok xs _ _ _ _ (ix2 r c) : EReal) + L k (ix2 r c) = _
    rw [comp_at, hL, hhalf, hg, ← hp ⟨10 + k, by omega⟩, ← hp ⟨20 + k, by omega⟩]
  have hlt : ∀ k, S k (ix2 r c) ≠ ⊤ := fun k => by
    rw [hS]
    refine add_real_ne_top ?_ _
    unfold Scalar.select
    split
    · refine comp_ne_top _ _ ?_ ?_ _ _ hpos _ _ _ _
      · rw [loEdge, word_lo]; exact EReal.bot_lt_coe _
      · rw [hiEdge, word_hi]; exact EReal.coe_lt_top _
    · exact EReal.coe_ne_top 0
  have hLt : ∀ k, L k (ix2 r c) ≠ ⊤ := fun k => by rw [hL]; exact EReal.coe_ne_top _
  show (lseVec (S 0) (S 1) (S 2) (S 3) (S 4) (S 5) (S 6) (S 7) (S 8) (S 9) (ix2 r c) : EReal) -
    lseVec (L 0) (L 1) (L 2) (L 3) (L 4) (L 5) (L 6) (L 7) (L 8) (L 9) (ix2 r c) = _
  rw [lse_at S r c hlt, lse_at L r c hLt, kMix]
  simp only [hS, hL]

end Cert.Proof
-- ==== Proof.PointAt.lean ====
module

public import proofs.«01_k».proof.Proof.Block
public import proofs.«01_k».proof.Proof.BodyAt
public import Idealize.ShloMosaic.Lib.Pointwise
public import Idealize.ShloMosaic.Lib.Pipeline.ValueKit.Tiles

/-! What one grid point adds to a lane of the output row: the sum of the mixture over the 256 rows of
`x` that the point reads. -/

@[expose] public section

set_option maxRecDepth 65536

noncomputable section

open Idealize.ShloMosaic Idealize.ShloMosaic.Tactic Cert.KernelIdeal Cert.KernelIdeal.Gen

namespace Cert.Proof

/-- What a scratch buffer holds: at parameter `k`, row `t`, lane `l`, the parameter `k` of batch row
`base + 2t + l / 64` and column `l % 64`. -/
def scratchAt (X : Vec Ideal S512x64x30 .f32) (base : ℕ) (hb : base ≤ 256) : Vec Ideal S30x128x128 .f32 :=
  fun y => X (ix3 ⟨base + 2 * (y 1).val + (y 2).val / 64, by
    have h1 : (y 1).val < 128 := (y 1).isLt
    have h2 : (y 2).val < 128 := (y 2).isLt
    omega⟩ ⟨(y 2).val % 64, Nat.mod_lt _ (by decide)⟩ (y 0))

/-- A row before the regrouping, at one index. -/
theorem rowVec_at (v : Vec Ideal S2x64x30 .f32) (k : Fin 30) (l : Fin 128) :
    rowVec v (ix3 k 0 l) = v (ix3 ⟨l.val / 64, by omega⟩ ⟨l.val % 64, Nat.mod_lt _ (by decide)⟩ k) := by
  pointwise [rowVec]

/-- Every store of a scratch buffer holds its row of `scratchAt`. -/
theorem rowPiece_at (X : Vec Ideal S512x64x30 .f32) (base : ℕ) (hb : base ≤ 256) (t : ℕ) (ht : t < 128)
    (x : (rowPiece X base hb t ht).1.shape.Idx) :
    (rowPiece X base hb t ht).2 x = scratchAt X base hb ((rowPiece X base hb t ht).1.emb x) := by
  have e0 : (((rowPiece X base hb t ht).1.emb x) 0).val = (x 0).val :=
    (Rect.idx_unit_val (s := S30x128x128) ![0, t, 0] S30x1x128.size (inb_row t ht) x 0).trans (Nat.zero_add _)
  have e1 : (((rowPiece X base hb t ht).1.emb x) 1).val = t :=
    (Rect.idx_unit_val (s := S30x128x128) ![0, t, 0] S30x1x128.size (inb_row t ht) x 1).trans (by
      have : (x 1).val < 1 := (x 1).isLt
      show t + (x 1).val = t
      omega)
  have e2 : (((rowPiece X base hb t ht).1.emb x) 2).val = (x 2).val :=
    (Rect.idx_unit_val (s := S30x128x128) ![0, t, 0] S30x1x128.size (inb_row t ht) x 2).trans (Nat.zero_add _)
  generalize (rowPiece X base hb t ht).1.emb x = y at e0 e1 e2
  have hx : x = ix3 (n0 := 30) (n1 := 1) (n2 := 128) (x 0) (0 : Fin 1) (x 2) := by
    funext a
    match a with
    | ⟨0, _⟩ => rfl
    | ⟨1, _⟩ => exact Fin.fin_one_eq_zero (x 1)
    | ⟨2, _⟩ => rfl
  have h2 : (x 2).val < 128 := (x 2).isLt
  rw [hx]
  show rowVec (View.ld X (Rect.unit (s := S512x64x30) ![base + 2 * t, 0, 0] S2x64x30.size _)) _ = _
  refine (rowVec_at _ (x 0) (x 2)).trans ?_
  refine View.ld_unit_apply_of _ _ _ _ _ _ fun a => ?_
  match a with
  | ⟨0, _⟩ =>
    show base + 2 * (y 1).val + (y 2).val / 64 = base + 2 * t + (x 2).val / 64
    rw [e1, e2]
  | ⟨1, _⟩ =>
    show (y 2).val % 64 = 0 + (x 2).val % 64
    rw [e2, Nat.zero_add]
  | ⟨2, _⟩ =>
    show (y 0).val = 0 + (x 0).val
    rw [e0, Nat.zero_add]

/-- Every listed store is one row. -/
theorem mem_rowPieces (X : Vec Ideal S512x64x30 .f32) (base : ℕ) (hb : base ≤ 256) :
    ∀ (n : ℕ) (hn : n ≤ 128) (p : View.Piece (Elt Ideal) S30x128x128 .f32),
      p ∈ rowPieces X base hb n hn → ∃ (t : ℕ) (ht : t < 128), p = rowPiece X base hb t ht
  | 0, _, p, h => absurd h (List.not_mem_nil)
  | n + 1, hn, p, h => by
    rcases List.mem_cons.mp h with h | h
    · exact ⟨n, hn, h⟩
    · exact mem_rowPieces X base hb n _ p h

/-- Each row is one of the listed stores. -/
theorem rowPiece_mem (X : Vec Ideal S512x64x30 .f32) (base : ℕ) (hb : base ≤ 256) :
    ∀ (n : ℕ) (hn : n ≤ 128) (t : ℕ) (ht : t < n),
      rowPiece X base hb t (lt_of_lt_of_le ht hn) ∈ rowPieces X base hb n hn
  | 0, _, t, h => absurd h (Nat.not_lt_zero t)
  | n + 1, hn, t, h => by
    rcases Nat.lt_succ_iff_lt_or_eq.mp h with h | rfl
    · exact List.mem_cons_of_mem _ (rowPiece_mem X base hb n _ t h)
    · exact List.mem_cons_self

/-- A scratch buffer after its stores, at one index. -/
theorem scratch_eq (X : Vec Ideal S512x64x30 .f32) (base : ℕ) (hb : base ≤ 256) :
    scratch X base hb = scratchAt X base hb := by
  funext y
  refine View.canon_apply_of_pieces (scratchAt X base hb) _ (fun p hp x => ?_) y ?_
  · obtain ⟨t, ht, rfl⟩ := mem_rowPieces X base hb _ _ p hp
    exact rowPiece_at X base hb t ht x
  · refine ⟨_, rowPiece_mem X base hb 128 (le_refl _) (y 1).val (y 1).isLt, ?_⟩
    refine (Rect.mem_set_unit (s := S30x128x128) (off := ![0, (y 1).val, 0]) (size := S30x1x128.size)
      (inb := inb_row _ (y 1).isLt)).mpr fun a => ?_
    match a with
    | ⟨0, _⟩ => exact ⟨Nat.zero_le _, (y 0).isLt⟩
    | ⟨1, _⟩ => exact ⟨le_refl _, Nat.lt_succ_self _⟩
    | ⟨2, _⟩ => exact ⟨Nat.zero_le _, (y 2).isLt⟩

/-- A slab's parameter at one index. -/
theorem slab_at (X : Vec Ideal S512x64x30 .f32) (base : ℕ) (hb : base ≤ 256) (o : ℕ) (ho : o ≤ 64)
    (k : ℕ) (hk : k < 30) (r : Fin 64) (l : Fin 128) :
    slabOf (scratch X base hb) o ho k hk (ix3 0 r l) =
      X (ix3 ⟨base + 2 * (o + r.val) + l.val / 64, by omega⟩ ⟨l.val % 64, Nat.mod_lt _ (by decide)⟩ ⟨k, hk⟩) := by
  rw [scratch_eq]
  refine (View.ld_unit_apply_of _ _ _ _ _ (ix3 ⟨k, hk⟩ ⟨o + r.val, by omega⟩ l) fun a => ?_).trans rfl
  match a with
  | ⟨0, _⟩ => rfl
  | ⟨1, _⟩ => rfl
  | ⟨2, _⟩ => exact (Nat.zero_add _).symm

/-- A slab of `x` at one index. -/
theorem xs_at (X : Vec Ideal S256x128 .f32) (o : ℕ) (ho : o ≤ 192) (r : Fin 64) (l : Fin 128) :
    xsOf X o ho (ix2 r l) = X (ix2 ⟨o + r.val, by omega⟩ l) := by
  refine View.ld_unit_apply_of _ _ _ _ _ (ix2 ⟨o + r.val, by omega⟩ l) fun a => ?_
  match a with
  | ⟨0, _⟩ => rfl
  | ⟨1, _⟩ => exact (Nat.zero_add _).symm

/-- Half a block at one lane: the mixture summed over its two slabs of 64 rows. -/
theorem half_at (hv gv : FVec Ideal S1x128 .f32) (ok : IVec S1x128 1) (X : Vec Ideal S256x128 .f32)
    (T : Vec Ideal S512x64x30 .f32) (base : ℕ) (hb : base ≤ 256) (o o' : ℕ) (ho : o ≤ 192) (ho' : o' ≤ 192)
    (l : Fin 128) (half g : ℝ) (hhalf : hv (ix2 0 l) = half) (hpos : 0 < half) (hg : gv (ix2 0 l) = g)
    (e : base = 2 * o) (e' : o' = o + 64) (p : Fin 256 → Fin 30 → ℝ)
    (hp : ∀ (q : Fin 256) (k : Fin 30),
      T (ix3 ⟨2 * q.val + l.val / 64, by omega⟩ ⟨l.val % 64, Nat.mod_lt _ (by decide)⟩ k) = p q k) :
    halfVec hv gv ok (xsOf X o ho) (xsOf X o' ho') (slabOf (scratch T base hb) 0 (by decide))
        (slabOf (scratch T base hb) 64 (by decide)) (ix2 0 l) =
      (∑ r : Fin 64, kMix (ok (ix2 0 l)) half g (X (ix2 ⟨o + r.val, by omega⟩ l))
          (fun k => p ⟨o + r.val, by omega⟩ k)) +
        ∑ r : Fin 64, kMix (ok (ix2 0 l)) half g (X (ix2 ⟨o' + r.val, by omega⟩ l))
          (fun k => p ⟨o' + r.val, by omega⟩ k) := by
  have cast : ∀ (v : Vec Ideal S64x128 .f32) (r : Fin 64),
      shapeCast S64x128 v shapeCasts_S64x128_S64x128 (ix2 r l) = v (ix2 r l) := fun v r => by pointwise
  have s0 : ∀ (r : Fin 64) (k : Fin 30), slabOf (scratch T base hb) 0 (by decide) k k.isLt (ix3 0 r l) =
      p ⟨o + r.val, by omega⟩ k := fun r k => by
    rw [slab_at, ← hp ⟨o + r.val, by omega⟩ k]
    congr 3
    simp only [Fin.mk.injEq]
    omega
  have s1 : ∀ (r : Fin 64) (k : Fin 30), slabOf (scratch T base hb) 64 (by decide) k k.isLt (ix3 0 r l) =
      p ⟨o' + r.val, by omega⟩ k := fun r k => by
    rw [slab_at, ← hp ⟨o' + r.val, by omega⟩ k]
    congr 3
    simp only [Fin.mk.injEq]
    omega
  have read : ∀ a b : FVec Ideal S1x128 .f32,
      addf (addf zeroRow a) b (ix2 0 l) = a (ix2 0 l) + b (ix2 0 l) := fun a b => by
    pointwise [zeroRow]
  rw [halfVec, read, rowSum_at, rowSum_at]
  congr 1
  · refine Finset.sum_congr rfl fun r _ => ?_
    rw [mix_at hv gv ok _ _ r l half g hhalf hpos hg _ (s0 r), cast, xs_at]
  · refine Finset.sum_congr rfl fun r _ => ?_
    rw [mix_at hv gv ok _ _ r l half g hhalf hpos hg _ (s1 r), cast, xs_at]

/-- A sum over 256 rows, as four sums over 64 rows. -/
theorem sum_four (f : Fin 256 → EReal) :
    ((∑ r : Fin 64, f ⟨0 + r.val, by omega⟩) + ∑ r : Fin 64, f ⟨64 + r.val, by omega⟩) +
      ((∑ r : Fin 64, f ⟨128 + r.val, by omega⟩) + ∑ r : Fin 64, f ⟨192 + r.val, by omega⟩) = ∑ q, f q := by
  refine Eq.symm ((Fin.sum_univ_add (a := 128) (b := 128) f).trans (congrArg₂ _ ?_ ?_))
  · refine (Fin.sum_univ_add (a := 64) (b := 64) _).trans (congrArg₂ _ ?_ ?_)
    · exact Finset.sum_congr rfl fun r _ => congrArg f (Fin.ext (Nat.zero_add _).symm)
    · rfl
  · refine (Fin.sum_univ_add (a := 64) (b := 64) _).trans (congrArg₂ _ ?_ ?_)
    · rfl
    · exact Finset.sum_congr rfl fun r _ => congrArg f (Fin.ext (Nat.add_assoc 128 64 r.val).symm)

/-- Whether a column has more than one bin, from the flag the kernel is handed. -/
def kOk (nb : EReal) : BitVec 1 :=
  FloatOps.cmpf (F := Ideal) (φ := .f32) .ogt nb (Scalar.ofBits .f32 0x3F000000#32)

/-- What a grid point adds to a lane: the mixture summed over its 256 rows. -/
theorem point_at (x0 : Vec Ideal S512x64x30 .f32) (x1 : Vec Ideal S256x128 .f32) (x2 x3 x4 : Vec Ideal S1x128 .f32)
    (l : Fin 128) (half g : ℝ) (hhalf : x2 (ix2 0 l) = half) (hpos : 0 < half) (hg : x3 (ix2 0 l) = g)
    (p : Fin 256 → Fin 30 → ℝ)
    (hp : ∀ (q : Fin 256) (k : Fin 30),
      x0 (ix3 ⟨2 * q.val + l.val / 64, by omega⟩ ⟨l.val % 64, Nat.mod_lt _ (by decide)⟩ k) = p q k) :
    pointVec x0 x1 x2 x3 x4 (ix3 0 0 l) =
      ∑ q : Fin 256, kMix (kOk (x4 (ix2 0 l))) half g (x1 (ix2 q l)) (fun k => p q k) := by
  have cast : ∀ v : FVec Ideal S1x128 .f32,
      shapeCast S1x128 v shapeCasts_S1x128_S1x128 (ix2 0 l) = v (ix2 0 l) := fun v => by pointwise
  have ok : cmpf .ogt (shapeCast S1x128 x4 shapeCasts_S1x128_S1x128)
    (broadcast S1x128 (Scalar.ofBits (F := Ideal) .f32 0x3F000000#32)) (ix2 0 l) = kOk (x4 (ix2 0 l)) := by
    pointwise [kOk]
  have read : ∀ a b : FVec Ideal S1x128 .f32,
      shapeCast S1x1x128 (addf a b) shapeCasts_S1x128_S1x1x128 (ix3 0 0 l) = a (ix2 0 l) + b (ix2 0 l) :=
    fun a b => by pointwise
  rw [pointVec, blockVec]
  rw [read, half_at _ _ _ x1 x0 0 _ 0 64 _ _ l half g ((cast _).trans hhalf) hpos ((cast _).trans hg) rfl rfl p hp,
    half_at _ _ _ x1 x0 256 _ 128 192 _ _ l half g ((cast _).trans hhalf) hpos ((cast _).trans hg) rfl rfl p hp, ok]
  exact sum_four fun q => kMix (kOk (x4 (ix2 0 l))) half g (x1 (ix2 q l)) (fun k => p q k)

end Cert.Proof
-- ==== Proof.Entry.lean ====
module

public import proofs.«01_k».proof.Proof.PointAt
public import Idealize.ShloMosaic.Lib.Pipeline.ValueKit
public import Idealize.ShloMosaic.Lib.Claim

/-! What the kernel's operand arrays hold when the launch starts, and its blocks read at one index. -/

@[expose] public section

set_option maxRecDepth 65536

noncomputable section

open Idealize.ShloMosaic Idealize.ShloMosaic.Tactic Cert.KernelIdeal Cert.KernelIdeal.Gen
open Idealize.SL.Sem

namespace Cert.Proof

variable (m : (ℓ : Loc nD τ sig) → Buf (Elt Ideal) ℓ)

/-- The argument `x` on a core. -/
abbrev argX (c : Dev nD) : FVec Ideal S16384x64x1 .f32 := m ((c.tc : Thread nD τ).loc main_arg0)

/-- The argument `l` on a core. -/
abbrev argL (c : Dev nD) : FVec Ideal S16384x64x30 .f32 := m ((c.tc : Thread nD τ).loc main_arg1)

/-- The argument `input_bins` on a core. -/
abbrev argN (c : Dev nD) : IVec S64 32 := m ((c.tc : Thread nD τ).loc main_arg2)

/-- The constant vector of 64 columns. -/
def cols (w : BitVec 32) : FVec Ideal S64 .f32 := broadcastInDim S64 ![] bcast_S_S64 (constant S_ .f32 w)

/-- The number of bins less one, at least one, of each column. -/
def binsLess (b : IVec S64 32) : FVec Ideal S64 .f32 :=
  maximumf (subf (sitofp .f32 b) (cols 0x3F800000#32)) (cols 0x3F800000#32)

/-- 64 columns, written twice along 128 lanes. -/
def tile (v : FVec Ideal S64 .f32) : FVec Ideal S1x128 .f32 :=
  shapeCast S1x128 (shapeCast S128 (broadcastInDim S2x64 ![0, 1] bcast_S1x64_S2x64_0_1
    (shapeCast S1x64 v shapeCasts_S64_S1x64)) shapeCasts_S2x64_S128) shapeCasts_S128_S1x128

/-- The operand `x`, 128 lanes to a row. -/
theorem entry_x (c : Dev nD) :
    V m c main_call0_v0 = (shapeCast S8192x128 (argX m c) shapeCasts_S16384x64x1_S8192x128 : FVec Ideal S8192x128 .f32) := by
  show StableHlo.after [hostOps0].flatten (fun b => m (c, b)) (Proc.devRef .tc main_call0_v0) = _
  simp only [List.flatten_cons, List.flatten_nil, List.append_nil, hostOps0]
  after_results
  rfl

/-- The operand holding half a bin. -/
theorem entry_half (c : Dev nD) :
    V m c main_call0_v11 = tile (Host.divf (cols 0x3F800000#32) (binsLess (argN m c))) := by
  show StableHlo.after [hostOps0].flatten (fun b => m (c, b)) (Proc.devRef .tc main_call0_v11) = _
  simp only [List.flatten_cons, List.flatten_nil, List.append_nil, hostOps0]
  after_results
  rfl

/-- The operand holding the logarithm of half the bins less one. -/
theorem entry_log (c : Dev nD) :
    V m c main_call0_v18 = tile (Host.log (Host.divf (binsLess (argN m c)) (cols 0x40000000#32))) := by
  show StableHlo.after [hostOps0].flatten (fun b => m (c, b)) (Proc.devRef .tc main_call0_v18) = _
  simp only [List.flatten_cons, List.flatten_nil, List.append_nil, hostOps0]
  after_results
  rfl

/-- The operand flagging the columns with more than one bin. -/
theorem entry_flag (c : Dev nD) :
    V m c main_call0_v25 = tile (select (cmpf .ogt (sitofp .f32 (argN m c)) (cols 0x3FC00000#32))
      (cols 0x3F800000#32) (cols 0x00000000#32)) := by
  show StableHlo.after [hostOps0].flatten (fun b => m (c, b)) (Proc.devRef .tc main_call0_v25) = _
  simp only [List.flatten_cons, List.flatten_nil, List.append_nil, hostOps0]
  after_results
  rfl

/-- A tiled row at one lane. -/
theorem tile_at (v : FVec Ideal S64 .f32) (l : Fin 128) :
    tile v (ix2 0 l) = v (ix1 ⟨l.val % 64, Nat.mod_lt _ (by decide)⟩) := by
  pointwise [tile]

/-- The bins of a column less one, at least one, as a real number. -/
def binsR (n : BitVec 32) : ℝ := max ((n.toInt : ℝ) - 1) 1

/-- It is positive. -/
theorem binsR_pos (n : BitVec 32) : 0 < binsR n := lt_of_lt_of_le one_pos (le_max_right _ _)

/-- Half a bin as a real number. -/
def halfR (n : BitVec 32) : ℝ := 1 / binsR n

/-- It is positive. -/
theorem halfR_pos (n : BitVec 32) : 0 < halfR n := one_div_pos.2 (binsR_pos n)

/-- The logarithm of half the bins less one, as a real number. -/
def logR (n : BitVec 32) : ℝ := Real.log (binsR n / 2)

/-- The real number is what the extended arithmetic computes. -/
theorem binsR_coe (n : BitVec 32) :
    max ((FloatOps.sitofp (F := Ideal) FTy.f32 n : EReal) - 1) 1 = ((binsR n : ℝ) : EReal) := by
  have h : (FloatOps.sitofp (F := Ideal) FTy.f32 n : EReal) = (((n.toInt : ℝ)) : EReal) := rfl
  rw [h, binsR, EReal.coe_strictMono.monotone.map_max]
  norm_cast

/-- Half a bin, from the extended arithmetic. -/
theorem halfR_coe (n : BitVec 32) : Ideal.div 1 ((binsR n : ℝ) : EReal) = ((halfR n : ℝ) : EReal) := by
  rw [Ideal.div_coe (binsR_pos n).ne', one_mul, halfR]

/-- The logarithm, from the extended arithmetic. -/
theorem logR_coe (n : BitVec 32) :
    Ideal.log (Ideal.div ((binsR n : ℝ) : EReal) ((2 : ℝ) : EReal)) = ((logR n : ℝ) : EReal) := by
  have h : 0 < binsR n * (1 / 2) := mul_pos (binsR_pos n) (by norm_num)
  rw [Ideal.div_coe two_ne_zero, ← EReal.coe_mul, Ideal.log_coe, if_neg (not_le.mpr h), logR,
    mul_one_div]

/-- Half a bin of a column. -/
theorem half_val (b : IVec S64 32) (d : Fin 64) :
    Host.divf (cols 0x3F800000#32) (binsLess b) (ix1 d) = ((halfR (b (ix1 d)) : ℝ) : EReal) := by
  pointwise [cols, binsLess]
  rw [binsR_coe, halfR_coe]

/-- The logarithm of half the bins less one, of a column. -/
theorem log_val (b : IVec S64 32) (d : Fin 64) :
    Host.log (Host.divf (binsLess b) (cols 0x40000000#32)) (ix1 d) = ((logR (b (ix1 d)) : ℝ) : EReal) := by
  pointwise [cols, binsLess]
  rw [binsR_coe, word_two, logR_coe]

/-- Whether a column has more than one bin. -/
abbrev Many (n : BitVec 32) : Prop :=
  Ideal.ofBits FTy.f32 0x3FC00000#32 < (FloatOps.sitofp (F := Ideal) FTy.f32 n : EReal)

/-- The flag of a column. -/
theorem flag_val (b : IVec S64 32) (d : Fin 64) :
    select (cmpf .ogt (sitofp .f32 b) (cols 0x3FC00000#32))
      (cols 0x3F800000#32) (cols 0x00000000#32) (ix1 d) =
      (if Many (b (ix1 d)) then (1 : EReal) else 0) := by
  pointwise [cols]

/-- The windows' block indices at each point. -/
theorem idx_facts : ∀ t : Fin cfg0.N, (cfg0.win 0).index t = ![t.val, 0, 0] ∧
    (cfg0.win 1).index t = ![t.val, 0] ∧ (cfg0.win 2).index t = ![0, 0] ∧
    (cfg0.win 3).index t = ![0, 0] ∧ (cfg0.win 4).index t = ![0, 0] :=
  (by decide +kernel : ∀ t : Fin grid0.N, _)

/-- The block of `l` at a point. -/
theorem blk_l (c : Dev nD) (t : Fin cfg0.N) (a : Fin 512) (d : Fin 64) (k : Fin 30) :
    (iblk m c 0 t : Vec Ideal S512x64x30 .f32) (ix3 a d k) =
      argL m c (ix3 ⟨512 * t.val + a.val, by have := t.isLt; have : cfg0.N = 32 := N_0; omega⟩ d k) := by
  blk_ext [iblk, V, idx_facts t]

/-- The block of `x` at a point. -/
theorem blk_x (c : Dev nD) (t : Fin cfg0.N) (q : Fin 256) (l : Fin 128) :
    (iblk m c 1 t : Vec Ideal S256x128 .f32) (ix2 q l) =
      argX m c (ix3 ⟨512 * t.val + 2 * q.val + l.val / 64, by
        have := t.isLt; have : cfg0.N = 32 := N_0; omega⟩ ⟨l.val % 64, Nat.mod_lt _ (by decide)⟩ 0) := by
  have e : (iblk m c 1 t : Vec Ideal S256x128 .f32) (ix2 q l) =
      (V m c main_call0_v0 : FVec Ideal S8192x128 .f32) (ix2 ⟨256 * t.val + q.val, by
        have := t.isLt; have : cfg0.N = 32 := N_0; omega⟩ l) := by
    blk_ext [iblk, idx_facts t]
  rw [e, entry_x]
  pointwise
  congr 2
  exact Fin.ext (by show (256 * t.val + q.val) * 2 + l.val / 64 = 512 * t.val + 2 * q.val + l.val / 64; omega)

/-- The block of half bins at a point. -/
theorem blk_half (c : Dev nD) (t : Fin cfg0.N) (l : Fin 128) :
    (iblk m c 2 t : Vec Ideal S1x128 .f32) (ix2 0 l) =
      ((halfR (argN m c (ix1 ⟨l.val % 64, Nat.mod_lt _ (by decide)⟩)) : ℝ) : EReal) := by
  have e : (iblk m c 2 t : Vec Ideal S1x128 .f32) (ix2 0 l) =
      (V m c main_call0_v11 : FVec Ideal S1x128 .f32) (ix2 0 l) := by
    blk_ext [iblk, idx_facts t]
  rw [e, entry_half, tile_at, half_val]

/-- The block of logarithms at a point. -/
theorem blk_log (c : Dev nD) (t : Fin cfg0.N) (l : Fin 128) :
    (iblk m c 3 t : Vec Ideal S1x128 .f32) (ix2 0 l) =
      ((logR (argN m c (ix1 ⟨l.val % 64, Nat.mod_lt _ (by decide)⟩)) : ℝ) : EReal) := by
  have e : (iblk m c 3 t : Vec Ideal S1x128 .f32) (ix2 0 l) =
      (V m c main_call0_v18 : FVec Ideal S1x128 .f32) (ix2 0 l) := by
    blk_ext [iblk, idx_facts t]
  rw [e, entry_log, tile_at, log_val]

/-- The block of flags at a point. -/
theorem blk_flag (c : Dev nD) (t : Fin cfg0.N) (l : Fin 128) :
    (iblk m c 4 t : Vec Ideal S1x128 .f32) (ix2 0 l) =
      (if Many (argN m c (ix1 ⟨l.val % 64, Nat.mod_lt _ (by decide)⟩)) then (1 : EReal) else 0) := by
  have e : (iblk m c 4 t : Vec Ideal S1x128 .f32) (ix2 0 l) =
      (V m c main_call0_v25 : FVec Ideal S1x128 .f32) (ix2 0 l) := by
    blk_ext [iblk, idx_facts t]
  rw [e, entry_flag, tile_at, flag_val]

end Cert.Proof
-- ==== Proof.Row.lean ====
module

public import proofs.«01_k».proof.Proof.Entry

/-! What the launch leaves in the output row, and what the lines after it leave in the two results. -/

@[expose] public section

set_option maxRecDepth 65536

noncomputable section

open Idealize.ShloMosaic Idealize.ShloMosaic.Tactic Cert.KernelIdeal Cert.KernelIdeal.Gen
open Idealize.SL.Sem

namespace Cert.Proof

variable (m : (ℓ : Loc nD τ sig) → Buf (Elt Ideal) ℓ)

/-- A grid point's contribution to the output row. -/
def contrib (c : Dev nD) (t : Fin cfg0.N) : Vec Ideal S1x1x128 .f32 :=
  pointVec (iblk m c 0 t) (iblk m c 1 t) (iblk m c 2 t) (iblk m c 3 t) (iblk m c 4 t)

/-- The first point leaves its contribution over zero. -/
theorem outs_first (c : Dev nD) (t : Fin cfg0.N) (h : t.val % 32 = 0) (i : S1x1x128.Idx) :
    outsAt0 m c t.val t.isLt i = (0 : EReal) + contrib m c t i := by
  rw [outsAt0_A m c t h, out_first]
  show (_ : EReal) + _ = _
  congr 1
  pointwise

/-- A later point adds its contribution to what the point before left. -/
theorem outs_later (c : Dev nD) (t : Fin cfg0.N) (h : ¬t.val % 32 = 0) (i : S1x1x128.Idx) :
    outsAt0 m c t.val t.isLt i =
      (outsAt0 m c (t.val - 1) (Nat.lt_of_le_of_lt (Nat.sub_le _ _) t.isLt) i : EReal) + contrib m c t i := by
  rw [outsAt0_B m c t h, out_later]
  show (_ : EReal) + _ = _
  congr 1
  pointwise

/-- The last point of the grid. -/
def lastPoint : Fin cfg0.N := ⟨31, by have : cfg0.N = 32 := N_0; omega⟩

/-- The last point leaves the sum of every point's contribution. -/
theorem outs_last (c : Dev nD) (i : S1x1x128.Idx) :
    outsAt0 m c lastPoint.val lastPoint.isLt i = ∑ t : Fin cfg0.N, (contrib m c t i : EReal) := by
  have := Pipeline.eq_sum_fin_of_reset_step_apply_last (fun n h => outsAt0 m c n h) 32 (fun _ => (0 : EReal))
    (fun t i => contrib m c t i) (outs_first m c) (outs_later m c) (le_of_eq N_0) lastPoint
    (by have : cfg0.N = 32 := N_0; show 31 + 1 = _; omega) i
  rw [this, zero_add]

/-- The output is written back once, whole, at the last point. -/
theorem whole_last : (cfg0.win 5).WholeAt lastPoint := by decide +kernel

/-- The output array after the launch. -/
theorem row_eq (c : Dev nD) :
    (dats m 0 c).arrAt 5 cfg0.N = (fun i => ∑ t : Fin cfg0.N, (contrib m c t i : EReal) : Vec Ideal S1x1x128 .f32) := by
  funext i
  refine ((dats m 0 c).arrAt_emb_eq_after_last 5 lastPoint whole_last i).trans ?_
  rw [after0_5]
  have h := outs_last m c i
  generalize outsAt0 m c lastPoint.val lastPoint.isLt = r at h ⊢
  exact h

/-- The negated sum of the output row. -/
def negSum (r : FVec Ideal S1x1x128 .f32) : FVec Ideal S_ .f32 :=
  Host.negf (Host.reduceAdd r (constant S_ .f32 0x00000000#32) reducesTo_S1x1x128_S_d0_1_2 h_S_)

/-- The lines after the launch leave the negated sum of the output row in the first result. -/
theorem after_first (W : Valuation τ sig (Elt Ideal)) :
    StableHlo.after [hostOps1].flatten W (Proc.devRef .tc main_v0_0) = negSum (W (Proc.devRef .tc main_call0_v26)) := by
  simp only [List.flatten_cons, List.flatten_nil, List.append_nil, hostOps1]
  after_results
  rfl

/-- And the negated sum over a constant in the second. -/
theorem after_second (W : Valuation τ sig (Elt Ideal)) :
    StableHlo.after [hostOps1].flatten W (Proc.devRef .tc main_v0_1) =
      Host.divf (negSum (W (Proc.devRef .tc main_call0_v26))) (constant S_ .f32 0x46317218#32) := by
  simp only [List.flatten_cons, List.flatten_nil, List.append_nil, hostOps1]
  after_results
  rfl

/-- The output array, among the arrays at the end of the launch. -/
theorem row_read (c : Dev nD) :
    Pipeline.withArrays spec0 c (V0 m c) (fun w => (dats m 0 c).arrAt w cfg0.N) (Proc.devRef .tc main_call0_v26) =
      (dats m 0 c).arrAt 5 cfg0.N :=
  Pipeline.withArrays_arr spec0 winFacts0.arr_inj c (V0 m c) (fun w => (dats m 0 c).arrAt w cfg0.N) 5

/-- The first result. -/
theorem result_first (c : Dev nD) :
    Pipeline.afterTail₀ cfgs (dats m) 0 (V0 m) [hostOps1] c main_v0_0 = negSum ((dats m 0 c).arrAt 5 cfg0.N) := by
  rw [← row_read]
  exact after_first _

/-- The second result. -/
theorem result_second (c : Dev nD) :
    Pipeline.afterTail₀ cfgs (dats m) 0 (V0 m) [hostOps1] c main_v0_1 =
      Host.divf (negSum ((dats m 0 c).arrAt 5 cfg0.N)) (constant S_ .f32 0x46317218#32) := by
  rw [← row_read]
  exact after_second _

/-- The negated sum, lane by lane. -/
theorem negSum_at (r : FVec Ideal S1x1x128 .f32) : negSum r ix0 = -∑ l : Fin 128, (r (ix3 0 0 l) : EReal) := by
  pointwise [negSum]
  simp only [Finset.univ_unique, Finset.sum_singleton]
  rfl

end Cert.Proof
-- ==== Proof.Top.lean ====
module

public import proofs.«01_k».proof.Proof.Consts
public import proofs.«01_k».proof.Proof.Lse
public import Idealize.ShloMosaic.PureOps.Reduce

/-! A maximum of real numbers is a real number, whatever the shapes. -/

@[expose] public section

noncomputable section

open Idealize.ShloMosaic

namespace Cert.Proof

/-- The fold of the maximum from `−∞` over a set of real numbers that isn't empty is real. -/
theorem fold_real {ι : Type} [DecidableEq ι] (x : ι → EReal) (hx : ∀ i, ∃ r : ℝ, x i = r) (s : Finset ι) :
    s.Nonempty → ∃ M : ℝ, s.fold max ⊥ x = M := by
  induction s using Finset.induction_on with
  | empty => exact fun h => absurd h Finset.not_nonempty_empty
  | insert i s hi ih =>
    intro _
    obtain ⟨r, hr⟩ := hx i
    rw [Finset.fold_insert hi, hr]
    rcases s.eq_empty_or_nonempty with rfl | hs
    · exact ⟨r, by rw [Finset.fold_empty]; exact max_eq_left bot_le⟩
    · obtain ⟨M, hM⟩ := ih hs
      exact ⟨max r M, by rw [hM, EReal.coe_strictMono.monotone.map_max]⟩

/-- The host's maximum from `−∞` over an array of real numbers is real wherever an entry falls on the index. -/
theorem reduce_real {s t u : Shape} {axes : List (Fin s.rank)} (x : FVec Ideal s .f32) (hx : ∀ i, ∃ r : ℝ, x i = r)
    (h : s.ReducesTo axes t) (hu : 0 < u.numel) (j : t.Idx) (hj : ∃ i, h.drop i = j) :
    ∃ M : ℝ, Host.reduce (α := Ideal .f32) FloatOps.maximumf x (constant u .f32 0xFF800000#32) h hu j = M := by
  obtain ⟨i, hi⟩ := hj
  obtain ⟨M, hM⟩ := fold_real x hx (Finset.univ.filter fun i => h.drop i = j)
    ⟨i, Finset.mem_filter.2 ⟨Finset.mem_univ i, hi⟩⟩
  refine ⟨M, hM ▸ ?_⟩
  have e := Host.reduce_eq_fold (max : EReal → EReal → EReal) x (constant (F := Ideal) u .f32 0xFF800000#32) h hu j
  rw [← word_bot]
  exact e

end Cert.Proof
-- ==== Proof.RefAt.lean ====
module

public import proofs.«01_k».proof.Proof.Entry
public import proofs.«01_k».proof.Proof.Top
public import proofs.«01_k».proof.Proof.Gen.ReferenceIdeal.Read

/-! What the reference computes at one index. -/

@[expose] public section

set_option maxRecDepth 65536

noncomputable section

open Idealize.ShloMosaic Idealize.ShloMosaic.Tactic Cert.ReferenceIdeal Cert.ReferenceIdeal.Gen Cert.ReferenceIdeal.Read

namespace Cert.Proof

variable (x0 : Vec Ideal S16384x64x1 .f32) (x1 : Vec Ideal S16384x64x30 .f32) (x2 : Vec Ideal S64 .i32)
  (b : Fin 16384) (d : Fin 64) (k : Fin 10)

/-- The mean of a component. -/
abbrev meanAt : EReal := x1 (ix3 b d ⟨10 + k.val, by omega⟩)

/-- The logarithmic scale of a component. -/
abbrev scaleAt : EReal := x1 (ix3 b d ⟨10 + (10 + k.val), by omega⟩)

/-- The cut-off logarithmic scale. -/
theorem ref_scale : val_main_v6 (F := Ideal) x1 (ix4 b d 0 k) = max (scaleAt x1 b d k) ((-7 : ℝ) : EReal) := by
  rw [← word_neg_seven]
  simp only [val_main_v0, val_main_v1, val_main_v2, val_main_v3, val_main_v4, val_main_cst, val_main_v5, val_main_v6]
  pointwise

/-- The scaled upper edge. -/
theorem ref_upper : val_main_v22 (F := Ideal) x0 x1 x2 (ix4 b d 0 k) =
    Ideal.exp (-max (scaleAt x1 b d k) ((-7 : ℝ) : EReal)) *
      (x0 (ix3 b d 0) - meanAt x1 b d k + ((halfR (x2 (ix1 d)) : ℝ) : EReal)) := by
  rw [← word_neg_seven, ← halfR_coe, ← binsR_coe]
  simp only [val_main_v0, val_main_v1, val_main_v2, val_main_v3, val_main_v4, val_main_cst, val_main_v5, val_main_v6, val_main_v7, val_main_v8, val_main_v9, val_main_v10, val_main_v11, val_main_v12, val_main_v13, val_main_cst_0, val_main_v14, val_main_v15, val_main_cst_1, val_main_v16, val_main_v17, val_main_cst_2, val_main_v18, val_main_v19, val_main_v20, val_main_v21, val_main_v23, val_main_v24, val_main_v22]
  pointwise

/-- The scaled lower edge. -/
theorem ref_lower : val_main_v25 (F := Ideal) x0 x1 x2 (ix4 b d 0 k) =
    Ideal.exp (-max (scaleAt x1 b d k) ((-7 : ℝ) : EReal)) *
      (x0 (ix3 b d 0) - meanAt x1 b d k - ((halfR (x2 (ix1 d)) : ℝ) : EReal)) := by
  rw [← word_neg_seven, ← halfR_coe, ← binsR_coe]
  simp only [val_main_v0, val_main_v1, val_main_v2, val_main_v3, val_main_v4, val_main_cst, val_main_v5, val_main_v6, val_main_v7, val_main_v8, val_main_v9, val_main_v10, val_main_v11, val_main_v12, val_main_v13, val_main_cst_0, val_main_v14, val_main_v15, val_main_cst_1, val_main_v16, val_main_v17, val_main_cst_2, val_main_v18, val_main_v19, val_main_v20, val_main_v21, val_main_v23, val_main_v24, val_main_v25]
  pointwise

/-- The scaled centre. -/
theorem ref_centre : val_main_v43 (F := Ideal) x0 x1 (ix4 b d 0 k) =
    Ideal.exp (-max (scaleAt x1 b d k) ((-7 : ℝ) : EReal)) *
      (x0 (ix3 b d 0) - meanAt x1 b d k) := by
  rw [← word_neg_seven]
  simp only [val_main_v0, val_main_v1, val_main_v2, val_main_v3, val_main_v4, val_main_cst, val_main_v5, val_main_v6, val_main_v7, val_main_v8, val_main_v9, val_main_v10, val_main_v11, val_main_v43]
  pointwise

/-- The scaled centre less the logarithmic scale. -/
theorem ref_less : val_main_v44 (F := Ideal) x0 x1 (ix4 b d 0 k) =
    Ideal.exp (-max (scaleAt x1 b d k) ((-7 : ℝ) : EReal)) *
      (x0 (ix3 b d 0) - meanAt x1 b d k) - max (scaleAt x1 b d k) ((-7 : ℝ) : EReal) := by
  rw [← ref_centre, ← ref_scale]
  rfl

/-- The soft plus the reference forms. -/
theorem ref_softplus (z : EReal) :
    (if z ≠ z then z else max z 0 + Ideal.log1p (Ideal.exp (-FloatOps.absf (F := Ideal) (φ := .f32) z))) = softplus z := rfl

/-- The floor of the reference under the difference, as a real number. -/
abbrev floorR : ℝ := 2305843 / 2305843009213693952

/-- The zero word. -/
theorem word_zero : Ideal.ofBits .f32 0#32 = (0 : EReal) := by
  simp [Ideal.ofBits, Ideal.ieee]

/-- The zero the reference selects, read at its one index. -/
theorem ref_zero : id (constant (F := Ideal) S_ .f32 0#32) ix0 = (0 : EReal) :=
  word_zero

set_option maxHeartbeats 1000000 in
/-- The log-probability of a component. -/
theorem ref_comp : val_main_v68 (F := Ideal) x0 x1 x2 (ix4 b d 0 k) =
    if Many (x2 (ix1 d)) then
      rComp loEdge hiEdge cutReal floorR ((halfR (x2 (ix1 d)) : ℝ) : EReal) ((logR (x2 (ix1 d)) : ℝ) : EReal)
        (x0 (ix3 b d 0)) (meanAt x1 b d k) (scaleAt x1 b d k)
    else 0 := by
  rw [rComp, ← ref_upper x0 x1 x2, ← ref_lower x0 x1 x2, ← ref_centre x0 x1]
  simp only [val_main_v0, val_main_v1, val_main_v2, val_main_v3, val_main_v4, val_main_cst, val_main_v5, val_main_v6, val_main_v7, val_main_v8, val_main_v9, val_main_v10, val_main_v11, val_main_v12, val_main_v13, val_main_cst_0, val_main_v14, val_main_v15, val_main_cst_1, val_main_v16, val_main_v17, val_main_cst_2, val_main_v18, val_main_v19, val_main_v20, val_main_v21, val_main_v23, val_main_v24, val_main_v26, val_main_v27, val_main_cst_3, val_main_v28, val_main_v29, val_main_cst_4, val_main_v30, val_main_v31, val_main_v32, val_main_v33, val_main_cst_5, val_main_v34, val_main_v35, val_main_cst_6, val_main_v36, val_main_v37, val_main_v38, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_v39, val_main_v40, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_v41, val_main_v42, val_main_call2_cst, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_v45, val_main_cst_7, val_main_v46, val_main_v47, val_main_v48, val_main_cst_8, val_main_v49, val_main_v50, val_main_cst_9, val_main_v51, val_main_v52, val_main_cst_10, val_main_v53, val_main_v54, val_main_cst_11, val_main_v55, val_main_v56, val_main_v57, val_main_cst_12, val_main_v58, val_main_v59, val_main_v60, val_main_v61, val_main_v62, val_main_v63, val_main_call4_v0, val_main_v64, val_main_call5_v0, val_main_v65, val_main_cst_13, val_main_v66, val_main_v67, val_main_cst_14, val_main_call6_v0, val_main_call6_v1, val_main_call6_v2, val_main_v68]
  pointwise
  rw [ref_zero, ref_less, ← ref_centre, binsR_coe, word_two, logR_coe, ref_softplus, ref_softplus, ref_softplus, word_cut, word_floor]
  rfl

/-- A component's log-probability with its log-weight. -/
theorem ref_logs : val_main_v71 (F := Ideal) x0 x1 x2 (ix3 b d k) =
    val_main_v68 (F := Ideal) x0 x1 x2 (ix4 b d 0 k) +
      (x1 (ix3 b d ⟨k.val, by omega⟩) - val_main_call7_v2 (F := Ideal) x1 (ix2 b d) -
        Ideal.log (∑ j : Fin 10, Ideal.exp (x1 (ix3 b d ⟨j.val, by omega⟩) - val_main_call7_v2 (F := Ideal) x1 (ix2 b d)))) := by
  simp only [val_main_v69, val_main_v71, val_main_v70, val_main_call7_v10, val_main_call7_v9, val_main_call7_v8,
    val_main_call7_v7, val_main_call7_v6, val_main_call7_v5, val_main_call7_v4, val_main_call7_v3,
    val_main_call7_cst_1, val_main_v0]
  pointwise

/-- The mixture's log-probability, before its largest term is known. -/
theorem ref_mix : val_main_v83 (F := Ideal) x0 x1 x2 (ix2 b d) =
    Ideal.log (∑ k : Fin 10, Ideal.exp (val_main_v71 (F := Ideal) x0 x1 x2 (ix3 b d k) -
      val_main_v76 (F := Ideal) x0 x1 x2 (ix2 b d))) + val_main_v76 (F := Ideal) x0 x1 x2 (ix2 b d) := by
  simp only [val_main_v83, val_main_v82, val_main_v81, val_main_v80, val_main_v79, val_main_v78, val_main_v77,
    val_main_cst_18]
  pointwise

/-- The total over the rows and columns. -/
theorem ref_sum : val_main_v84 (F := Ideal) x0 x1 x2 ix0 =
    ∑ b : Fin 16384, ∑ d : Fin 64, val_main_v83 (F := Ideal) x0 x1 x2 (ix2 b d) := by
  simp only [val_main_v84, val_main_cst_19]
  pointwise

/-- Dropping the component's coordinate. -/
theorem drop_at : (reducesTo_S16384x64x10_S16384x64_d2).drop (ix3 b d k) = ix2 b d := by
  ext a
  fin_cases a
  · exact Shape.ReducesTo.drop_apply_val_of_eq _ (ix3 b d k) 0 0
  · exact Shape.ReducesTo.drop_apply_val_of_eq _ (ix3 b d k) 1 1

/-- The reference's largest weight is a real number when its inputs are. -/
theorem ref_top (hx : ∀ i, ∃ r : ℝ, x1 i = r) : ∃ M : ℝ, val_main_call7_v2 (F := Ideal) x1 (ix2 b d) = M := by
  obtain ⟨M, hM⟩ := reduce_real (val_main_v0 (F := Ideal) x1) (fun i => hx _) (u := S_)
    reducesTo_S16384x64x10_S16384x64_d2 h_S_ (ix2 b d) ⟨ix3 b d 0, drop_at b d 0⟩
  refine ⟨M, ?_⟩
  rw [val_main_call7_v2_apply, val_main_call7_v1_apply, val_main_call7_v0, val_main_call7_cst, hM,
    val_main_call7_cst_0_apply]
  show max (Ideal.ofBits .f32 0xFF800000#32) _ = _
  rw [word_bot]
  exact max_eq_right bot_le

/-- The reference's guarded largest term is a real number. -/
theorem ref_guard : ∃ T : ℝ, val_main_v76 (F := Ideal) x0 x1 x2 (ix2 b d) = T := by
  rw [val_main_v76_apply, val_main_v75_apply, val_main_v74_apply, val_main_v73_apply, val_main_cst_16_apply,
    val_main_call8_v1_apply, val_main_call8_v0_apply, val_main_cst_17_apply]
  generalize val_main_v72 (F := Ideal) x0 x1 x2 (ix2 b d) = y
  obtain ⟨T, hT⟩ := guarded_real y
  refine ⟨T, hT ▸ ?_⟩
  rw [← word_top, ← word_zero]
  exact Scalar.select_decide (max y (-y) < Ideal.ofBits .f32 0x7F800000#32) y (Ideal.ofBits .f32 0#32)

/-- The mixture's log-probability over real inputs: the two logarithms of sums. -/
theorem ref_mixture (p : Fin 16384 → Fin 64 → Fin 30 → ℝ) (hx : ∀ b d k, x1 (ix3 b d k) = (p b d k : EReal))
    (hr : ∀ i, ∃ r : ℝ, x1 i = r) (hlp : ∀ k : Fin 10, val_main_v68 (F := Ideal) x0 x1 x2 (ix4 b d 0 k) ≠ ⊤) :
    val_main_v83 (F := Ideal) x0 x1 x2 (ix2 b d) =
      Ideal.log (∑ k : Fin 10, Ideal.exp (val_main_v68 (F := Ideal) x0 x1 x2 (ix4 b d 0 k) +
        ((p b d ⟨k.val, by omega⟩ : ℝ) : EReal))) -
      Ideal.log (∑ k : Fin 10, Ideal.exp ((p b d ⟨k.val, by omega⟩ : ℝ) : EReal)) := by
  obtain ⟨M, hM⟩ := ref_top x1 b d hr
  obtain ⟨T, hT⟩ := ref_guard x0 x1 x2 b d
  rw [ref_mix, hT]
  simp only [ref_logs, hM, hx]
  exact mixture_eq (n := 9) _ hlp (fun k => p b d ⟨k.val, by omega⟩) M T

end Cert.Proof
-- ==== Proof.Equation.lean ====
module

public import proofs.«01_k».proof.Proof.Row
public import proofs.«01_k».proof.Proof.RefAt

/-! The two programs compute one total: element by element, and then over all rows and columns. -/

@[expose] public section

set_option maxRecDepth 65536

noncomputable section

open Idealize.ShloMosaic Idealize.ShloMosaic.Tactic Cert.ReferenceIdeal.Read
open Idealize.SL.Sem

namespace Cert.Proof

/-- The kernel's test of its flag is the test of the bins. -/
theorem flag_test (n : BitVec 32) (u v : EReal) :
    Scalar.select (kOk (if Many n then (1 : EReal) else 0)) u v = if Many n then u else v := by
  have h : ∀ e : EReal, kOk e = BitVec.ofBool (decide (Ideal.ofBits .f32 0x3F000000#32 < e)) := fun e => rfl
  rw [h, Scalar.select_decide, word_half]
  by_cases hn : Many n
  · rw [if_pos hn, if_pos hn, if_pos (by exact_mod_cast (by norm_num : (1 / 2 : ℝ) < 1))]
  · rw [if_neg hn, if_neg hn, if_neg (not_lt.mpr (by exact_mod_cast (by norm_num : (0 : ℝ) ≤ 1 / 2)))]

/-- The lower edge is above `−∞`. -/
theorem lo_edge : ⊥ < loEdge := by rw [loEdge, word_lo]; exact EReal.bot_lt_coe _

/-- The upper edge is below `+∞`. -/
theorem hi_edge : hiEdge < ⊤ := by rw [hiEdge, word_hi]; exact EReal.coe_lt_top _

section Element

variable (x0 : Vec Ideal Cert.ReferenceIdeal.S16384x64x1 .f32) (x1 : Vec Ideal Cert.ReferenceIdeal.S16384x64x30 .f32)
  (x2 : Vec Ideal Cert.ReferenceIdeal.S64 .i32)
  (p : Fin 16384 → Fin 64 → Fin 30 → ℝ) (hx : ∀ b d k, x1 (ix3 b d k) = (p b d k : EReal))
  (b : Fin 16384) (d : Fin 64)

include hx

/-- The reference's log-probability of a component is the kernel's. -/
theorem comp_same (k : Fin 10) : val_main_v68 (F := Ideal) x0 x1 x2 (ix4 b d 0 k) =
    if Many (x2 (ix1 d)) then
      kComp loEdge hiEdge ((Real.log cutReal : ℝ) : EReal) ((halfR (x2 (ix1 d)) : ℝ) : EReal)
        ((logR (x2 (ix1 d)) : ℝ) : EReal) (x0 (ix3 b d 0)) (p b d ⟨10 + k.val, by omega⟩) (p b d ⟨20 + k.val, by omega⟩)
    else 0 := by
  have e : (⟨20 + k.val, by omega⟩ : Fin 30) = ⟨10 + (10 + k.val), by omega⟩ := Fin.ext (by show 20 + k.val = 10 + (10 + k.val); omega)
  rw [ref_comp, e, comp_eq _ _ lo_edge hi_edge cutReal floorR (by norm_num [cutReal]) (by norm_num [cutReal, floorR])
    _ (halfR_pos _), meanAt, scaleAt, hx, hx]

/-- A component's log-probability is never `+∞`. -/
theorem comp_below (k : Fin 10) : val_main_v68 (F := Ideal) x0 x1 x2 (ix4 b d 0 k) ≠ ⊤ := by
  rw [comp_same x0 x1 x2 p hx]
  split
  · exact comp_ne_top _ _ lo_edge hi_edge cutReal _ (halfR_pos _) _ _ _ _
  · exact EReal.zero_ne_top

/-- The kernel's mixture is the reference's. -/
theorem mix_same (hr : ∀ i, ∃ r : ℝ, x1 i = r) :
    kMix (kOk (if Many (x2 (ix1 d)) then (1 : EReal) else 0)) ((halfR (x2 (ix1 d)) : ℝ) : EReal)
      ((logR (x2 (ix1 d)) : ℝ) : EReal) (x0 (ix3 b d 0)) (fun k => p b d k) =
    val_main_v83 (F := Ideal) x0 x1 x2 (ix2 b d) := by
  rw [ref_mixture x0 x1 x2 b d p hx hr (comp_below x0 x1 x2 p hx b d), kMix]
  simp only [flag_test, comp_same x0 x1 x2 p hx]

end Element

/-- The kernel's order of summation — lanes, grid points, rows of a block — covers every row and column once. -/
theorem sum_lanes {N : ℕ} (hN : N = 32) (M : Fin 16384 → Fin 64 → EReal) :
    ∑ l : Fin 128, ∑ t : Fin N, ∑ q : Fin 256,
      M ⟨512 * t.val + 2 * q.val + l.val / 64, by omega⟩ ⟨l.val % 64, Nat.mod_lt _ (by decide)⟩ =
    ∑ b : Fin 16384, ∑ d : Fin 64, M b d := by
  subst hN
  rw [Finset.sum_comm]
  refine Eq.trans (Finset.sum_congr rfl fun t _ => ?_)
    (Fin.sum_mul_add_fin 32 512 (fun b : Fin 16384 => ∑ d : Fin 64, M b d))
  rw [Finset.sum_comm]
  refine Eq.trans (Finset.sum_congr rfl fun q _ => ?_)
    (Fin.sum_mul_add_fin 256 2 (fun r : Fin 512 => ∑ d : Fin 64, M ⟨t.val * 512 + r.val, by omega⟩ d))
  refine Fin.sum_divmod_congr (S := 64) (A := 2) (fun l ha hs => ?_)
  congr 1
  exact Fin.ext (by show 512 * t.val + 2 * q.val + l.val / 64 = t.val * 512 + (q.val * 2 + l.val / 64); omega)

open Cert.KernelIdeal Cert.KernelIdeal.Gen in
/-- The negated sum of the output row is the reference's first result. -/
theorem total_same (m : (ℓ : Loc nD τ sig) → Buf (Elt Ideal) ℓ) (c : Dev nD)
    (hr : ∀ i, ∃ r : ℝ, argL m c i = r) :
    negSum ((dats m 0 c).arrAt 5 cfg0.N) = val_main_v85 (F := Ideal) (argX m c) (argL m c) (argN m c) := by
  choose f hf using hr
  funext i
  obtain rfl : i = ix0 := by funext a; exact a.elim0
  have lane : ∀ (l : Fin 128) (t : Fin cfg0.N), (contrib m c t (ix3 0 0 l) : EReal) =
      ∑ q : Fin 256, val_main_v83 (F := Ideal) (argX m c) (argL m c) (argN m c)
        (ix2 ⟨512 * t.val + 2 * q.val + l.val / 64, by have := t.isLt; have : cfg0.N = 32 := N_0; omega⟩
          ⟨l.val % 64, Nat.mod_lt _ (by decide)⟩) := fun l t => by
    rw [contrib, point_at _ _ _ _ _ l _ _ (blk_half m c t l) (halfR_pos _) (blk_log m c t l)
      (fun q k => f (ix3 ⟨512 * t.val + 2 * q.val + l.val / 64, by have := t.isLt; have : cfg0.N = 32 := N_0; omega⟩
          ⟨l.val % 64, Nat.mod_lt _ (by decide)⟩ k))
      (fun q k => by
        rw [blk_l, ← hf]
        congr 2
        exact Fin.ext (Nat.add_assoc _ _ _).symm), blk_flag]
    refine Finset.sum_congr rfl fun q _ => ?_
    rw [blk_x]
    exact mix_same (argX m c) (argL m c) (argN m c) (fun b d k => f (ix3 b d k)) (fun b d k => hf _) _ _
      fun i => ⟨f i, hf i⟩
  rw [row_eq, negSum_at, val_main_v85_apply]
  simp only [lane]
  rw [sum_lanes N_0 (fun b d => val_main_v83 (F := Ideal) (argX m c) (argL m c) (argN m c) (ix2 b d))]
  show _ = -(_ : EReal)
  rw [ref_sum]

end Cert.Proof
-- ==== Proof.Runs.lean ====
module

public import proofs.«01_k».proof.Defs
public import proofs.«01_k».proof.Proof.Equation
public import proofs.«01_k».proof.Proof.Gen.Pre_finite_params
public import Idealize.ShloMosaic.Adequacy

/-! Both programs' runs, and the equation between their results. -/

@[expose] public section

set_option maxRecDepth 65536

noncomputable section

open Idealize.ShloMosaic Idealize.ShloMosaic.Tactic
open Idealize.SL.Sem

namespace Cert.Proof

section
open Cert.KernelIdeal Cert.KernelIdeal.Gen

/-- The kernel's run: the negated sum of the output row, the same over a constant, the arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = negSum ((dats m 0 c).arrAt 5 cfg0.N)
      ∧ r.2.mem ((c.tc : Thread nD τ).loc main_v0_1) =
        Host.divf (negSum ((dats m 0 c).arrAt 5 cfg0.N)) (constant S_ .f32 0x46317218#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h.1 c).2 main_v0_0 (by decide)).trans (result_first m c),
        ((h.1 c).2 main_v0_1 (by decide)).trans (result_second m c), h.2 c⟩)
    (θ_run_and (run_main m g) (unchanged m g))

end

section
open Cert.ReferenceIdeal Cert.ReferenceIdeal.Gen Cert.ReferenceIdeal.Read

/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v85) = val_main_v85 (F := Ideal) (m ((c.tc : Thread nD τ).loc main_arg0))
        (m ((c.tc : Thread nD τ).loc main_arg1)) (m ((c.tc : Thread nD τ).loc main_arg2))
      ∧ r.2.mem ((c.tc : Thread nD τ).loc main_v86) = val_main_v86 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c).1.trans (val_main_v85_eq _), (h c).2.1.trans (val_main_v86_eq _), (h c).2.2⟩)
    (Cert.ReferenceIdeal.Value.run (F := Ideal) m g)

end

/-- A value whose magnitude is below `+∞` is a real number. -/
theorem real_of_below (y : EReal) (h : max y (-y) < ⊤) : ∃ r : ℝ, y = r := by
  induction y with
  | coe r => exact ⟨r, rfl⟩
  | top => simp at h
  | bot => simp at h

/-- What the precondition says: every entry of `l` is a real number. -/
theorem params_real (a0 : FVec Ideal Cert.Pre_finite_params.S16384x64x1 .f32)
    (a1 : FVec Ideal Cert.Pre_finite_params.S16384x64x30 .f32) (a2 : IVec Cert.Pre_finite_params.S64 32)
    (a3 : FVec Ideal Cert.Pre_finite_params.S16384x1892 .f32)
    (h : Cert.Pre_finite_params.fn (F := Ideal) a0 a1 a2 a3 = fun _ => 1#1) (i) : ∃ r : ℝ, a1 i = r := by
  refine real_of_below _ ?_
  have e : BitVec.ofBool (decide (max (a1 i) (-a1 i) < Ideal.ofBits .f32 0x7F800000#32)) = 1#1 := congrFun h i
  rw [word_top] at e
  by_contra hn
  rw [decide_eq_false hn] at e
  exact absurd e (by decide)

/-- From finite parameters the kernel and the reference end with equal results. -/
theorem same_results : Cert.algebraic_KernelIdeal_ReferenceIdeal_pre_finite_params := by
  intro m g m' g' hpre hagree
  have total := fun c => total_same m c (params_real _ _ _ _ (hpre c))
  refine ⟨_, _, kernel_run m g, (θ_run _ _ _).mono (fun r h c => ?_) (reference_run m' g')⟩
  obtain ⟨e0, e1, e2, -⟩ := hagree c
  have h0 := (h c).1
  have h1 := (h c).2.1
  rw [e0, e1, e2] at h0 h1
  exact ⟨h0.trans (total c).symm, h1.trans (by rw [total c]; rfl), (h c).2.2⟩

end Cert.Proof
-- ==== Proof.lean ====
/- The certificate: the frames of the three programs, the three named constants, and the equality of the kernel's results
   with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_params
public import proofs.«01_k».proof.Proof.Runs
public import Idealize.ShloMosaic.Adequacy
public import Idealize.ShloMosaic.Init

@[expose] public section

noncomputable section

namespace Cert.Proof

open Idealize.ShloMosaic Idealize.SL.Sem Cert.Kernel

/-- The reference runs without a fault, leaves its arguments unchanged and every counter at zero. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Each named constant has the value that the table gives it. -/
theorem preserves : Cert.preserves_Kernel_KernelIdeal :=
  ⟨IdealRules.named_const.statement Cert.KernelIdeal.κ "clamp" .f32 0x42A00000#32 ⊤ rfl,
    IdealRules.named_const.statement Cert.KernelIdeal.κ "neg_clamp" .f32 0xC2A00000#32 ⊥ rfl,
    IdealRules.named_const.statement Cert.KernelIdeal.κ "log_cut" .f32 0xC180F1DC#32
      ((Real.log (14073749 / 140737488355328) : ℝ) : EReal) rfl⟩

/-- Everything claimed. -/
theorem claim : Cert.Claim :=
  ⟨Cert.Kernel.Gen.facts, Cert.KernelIdeal.Gen.facts, Cert.ReferenceIdeal.Gen.facts, Cert.Pre_finite_params.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, preserves, same_results⟩

end Cert.Proof

end
